-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale_log2e" .f32 0x3E0293EE#32 (((Real.sqrt 128)⁻¹ * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4096, 8, 128]⟩ ⟨3, ![32768, 8, 128]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨3, ![4096, 8, 128]⟩ ⟨3, ![32768, 8, 128]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1024 : Shape := ⟨2, ![256, 1024]⟩
abbrev S1024x1024 : Shape := ⟨2, ![1024, 1024]⟩
abbrev S4096x8x128 : Shape := ⟨3, ![4096, 8, 128]⟩
abbrev S4x4096x128 : Shape := ⟨3, ![4, 4096, 128]⟩
abbrev S6x8x128x256 : Shape := ⟨4, ![6, 8, 128, 256]⟩
abbrev S6x16x256 : Shape := ⟨3, ![6, 16, 256]⟩
abbrev S4x2 : Shape := ⟨2, ![4, 2]⟩
abbrev S_ : Shape := ⟨0, ![]⟩
abbrev S3x4x2 : Shape := ⟨3, ![3, 4, 2]⟩
abbrev S1x1 : Shape := ⟨2, ![1, 1]⟩
abbrev S1x4096x128 : Shape := ⟨3, ![1, 4096, 128]⟩
abbrev S4096x128 : Shape := ⟨2, ![4096, 128]⟩
abbrev S4096x1x128 : Shape := ⟨3, ![4096, 1, 128]⟩
abbrev S256x128 : Shape := ⟨2, ![256, 128]⟩
abbrev S4096x256 : Shape := ⟨2, ![4096, 256]⟩
abbrev S256 : Shape := ⟨1, ![256]⟩
abbrev S1x256 : Shape := ⟨2, ![1, 256]⟩
abbrev S128x256 : Shape := ⟨2, ![128, 256]⟩
abbrev S1x1x128x256 : Shape := ⟨4, ![1, 1, 128, 256]⟩
abbrev S1x1x256 : Shape := ⟨3, ![1, 1, 256]⟩
abbrev S1x1x1 : Shape := ⟨3, ![1, 1, 1]⟩
abbrev S1x2x128x256 : Shape := ⟨4, ![1, 2, 128, 256]⟩
abbrev S2x128x256 : Shape := ⟨3, ![2, 128, 256]⟩
abbrev S1x4x256 : Shape := ⟨3, ![1, 4, 256]⟩
abbrev S4x256 : Shape := ⟨2, ![4, 256]⟩
abbrev S1x2x256 : Shape := ⟨3, ![1, 2, 256]⟩
abbrev S2x256 : Shape := ⟨2, ![2, 256]⟩
abbrev S2x1x256 : Shape := ⟨3, ![2, 1, 256]⟩
abbrev S1x128x256 : Shape := ⟨3, ![1, 128, 256]⟩
abbrev S128x1024 : Shape := ⟨2, ![128, 1024]⟩

abbrev nBuf : Space → Nat
  | .hbm => 6
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S1024x1024, .f32⟩
  | .hbm, ⟨3, _⟩ => ⟨S4096x8x128, .f32⟩
  | .hbm, ⟨4, _⟩ => ⟨S4096x8x128, .f32⟩
  | .hbm, ⟨5, _⟩ => ⟨S256x1024, .f32⟩
  | .local _ .vmem, ⟨0, _⟩ => ⟨S256x1024, .f32⟩
  | .local _ .vmem, ⟨1, _⟩ => ⟨S1024x1024, .f32⟩
  | .local _ .vmem, ⟨2, _⟩ => ⟨S256x1024, .f32⟩
  | .local _ .vmem, ⟨3, _⟩ => ⟨S4x4096x128, .f32⟩
  | .local _ .vmem, ⟨4, _⟩ => ⟨S4x4096x128, .f32⟩
  | .local _ .vmem, ⟨5, _⟩ => ⟨S1024x1024, .f32⟩
  | .local _ .vmem, ⟨6, _⟩ => ⟨S6x8x128x256, .bf16⟩
  | .local _ .vmem, ⟨7, _⟩ => ⟨S6x16x256, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  (ofTc nBuf bufTy 1 60 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_203 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_9 : BitVec 32 := 1#32
  let v13 : BitVec 32 := Scalar.xori v2 c1_i32_9
  let c1_i32_202 : BitVec 32 := 1#32
  let v192 : BitVec 32 := Scalar.muli v13 c1_i32_202
  let v193 : BitVec 32 := Scalar.addi c0_i32_203 v192
  v193.toNat
def k0_dev5 (d0 : Dev nD) : Nat :=
  let c0_i32_219 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_9 : BitVec 32 := 1#32
  let v13 : BitVec 32 := Scalar.xori v2 c1_i32_9
  let c1_i32_218 : BitVec 32 := 1#32
  let v202 : BitVec 32 := Scalar.muli v13 c1_i32_218
  let v203 : BitVec 32 := Scalar.addi c0_i32_219 v202
  v203.toNat
def k0_dev6 (d0 : Dev nD) : Nat :=
  let c0_i32_331 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v14 : BitVec 32 := Scalar.xori v2 c1_i32_10
  let c1_i32_330 : BitVec 32 := 1#32
  let v316 : BitVec 32 := Scalar.muli v14 c1_i32_330
  let v317 : BitVec 32 := Scalar.addi c0_i32_331 v316
  v317.toNat
def k0_dev7 (d0 : Dev nD) : Nat :=
  let c0_i32_347 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v14 : BitVec 32 := Scalar.xori v2 c1_i32_10
  let c1_i32_346 : BitVec 32 := 1#32
  let v326 : BitVec 32 := Scalar.muli v14 c1_i32_346
  let v327 : BitVec 32 := Scalar.addi c0_i32_347 v326
  v327.toNat
def k0_dev8 (d0 : Dev nD) : Nat :=
  let c0_i32_470 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_13 : BitVec 32 := 2#32
  let v17 : BitVec 32 := Scalar.xori v2 c2_i32_13
  let c1_i32_469 : BitVec 32 := 1#32
  let v443 : BitVec 32 := Scalar.muli v17 c1_i32_469
  let v444 : BitVec 32 := Scalar.addi c0_i32_470 v443
  v444.toNat
def k0_dev9 (d0 : Dev nD) : Nat :=
  let c0_i32_486 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_13 : BitVec 32 := 2#32
  let v17 : BitVec 32 := Scalar.xori v2 c2_i32_13
  let c1_i32_485 : BitVec 32 := 1#32
  let v453 : BitVec 32 := Scalar.muli v17 c1_i32_485
  let v454 : BitVec 32 := Scalar.addi c0_i32_486 v453
  v454.toNat
def k0_dev10 (d0 : Dev nD) : Nat :=
  let c0_i32_534 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_11 : BitVec 32 := 1#32
  let v15 : BitVec 32 := Scalar.xori v2 c1_i32_11
  let c1_i32_533 : BitVec 32 := 1#32
  let v503 : BitVec 32 := Scalar.muli v15 c1_i32_533
  let v504 : BitVec 32 := Scalar.addi c0_i32_534 v503
  v504.toNat
def k0_dev11 (d0 : Dev nD) : Nat :=
  let c0_i32_550 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_11 : BitVec 32 := 1#32
  let v15 : BitVec 32 := Scalar.xori v2 c1_i32_11
  let c1_i32_549 : BitVec 32 := 1#32
  let v513 : BitVec 32 := Scalar.muli v15 c1_i32_549
  let v514 : BitVec 32 := Scalar.addi c0_i32_550 v513
  v514.toNat
def k0_dev12 (d0 : Dev nD) : Nat :=
  let c0_i32_658 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_14 : BitVec 32 := 2#32
  let v18 : BitVec 32 := Scalar.xori v2 c2_i32_14
  let c1_i32_657 : BitVec 32 := 1#32
  let v618 : BitVec 32 := Scalar.muli v18 c1_i32_657
  let v619 : BitVec 32 := Scalar.addi c0_i32_658 v618
  v619.toNat
def k0_dev13 (d0 : Dev nD) : Nat :=
  let c0_i32_674 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_14 : BitVec 32 := 2#32
  let v18 : BitVec 32 := Scalar.xori v2 c2_i32_14
  let c1_i32_673 : BitVec 32 := 1#32
  let v628 : BitVec 32 := Scalar.muli v18 c1_i32_673
  let v629 : BitVec 32 := Scalar.addi c0_i32_674 v628
  v629.toNat
def k0_dev14 (d0 : Dev nD) : Nat :=
  let c0_i32_702 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_12 : BitVec 32 := 1#32
  let v16 : BitVec 32 := Scalar.xori v2 c1_i32_12
  let c1_i32_701 : BitVec 32 := 1#32
  let v661 : BitVec 32 := Scalar.muli v16 c1_i32_701
  let v662 : BitVec 32 := Scalar.addi c0_i32_702 v661
  v662.toNat
def k0_dev15 (d0 : Dev nD) : Nat :=
  let c0_i32_718 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_12 : BitVec 32 := 1#32
  let v16 : BitVec 32 := Scalar.xori v2 c1_i32_12
  let c1_i32_717 : BitVec 32 := 1#32
  let v671 : BitVec 32 := Scalar.muli v16 c1_i32_717
  let v672 : BitVec 32 := Scalar.addi c0_i32_718 v671
  v672.toNat
def k0_dev16 (d0 : Dev nD) : Nat :=
  let c0_i32_791 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_17 : BitVec 32 := 4#32
  let v21 : BitVec 32 := Scalar.xori v2 c4_i32_17
  let c1_i32_790 : BitVec 32 := 1#32
  let v736 : BitVec 32 := Scalar.muli v21 c1_i32_790
  let v737 : BitVec 32 := Scalar.addi c0_i32_791 v736
  v737.toNat
def k0_dev17 (d0 : Dev nD) : Nat :=
  let c0_i32_807 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_17 : BitVec 32 := 4#32
  let v21 : BitVec 32 := Scalar.xori v2 c4_i32_17
  let c1_i32_806 : BitVec 32 := 1#32
  let v746 : BitVec 32 := Scalar.muli v21 c1_i32_806
  let v747 : BitVec 32 := Scalar.addi c0_i32_807 v746
  v747.toNat
def k0_dev18 (d0 : Dev nD) : Nat :=
  let c0_i32_881 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_15 : BitVec 32 := 2#32
  let v19 : BitVec 32 := Scalar.xori v2 c2_i32_15
  let c1_i32_880 : BitVec 32 := 1#32
  let v811 : BitVec 32 := Scalar.muli v19 c1_i32_880
  let v812 : BitVec 32 := Scalar.addi c0_i32_881 v811
  v812.toNat
def k0_dev19 (d0 : Dev nD) : Nat :=
  let c0_i32_897 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_15 : BitVec 32 := 2#32
  let v19 : BitVec 32 := Scalar.xori v2 c2_i32_15
  let c1_i32_896 : BitVec 32 := 1#32
  let v821 : BitVec 32 := Scalar.muli v19 c1_i32_896
  let v822 : BitVec 32 := Scalar.addi c0_i32_897 v821
  v822.toNat
def k0_dev20 (d0 : Dev nD) : Nat :=
  let c0_i32_971 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_18 : BitVec 32 := 4#32
  let v22 : BitVec 32 := Scalar.xori v2 c4_i32_18
  let c1_i32_970 : BitVec 32 := 1#32
  let v886 : BitVec 32 := Scalar.muli v22 c1_i32_970
  let v887 : BitVec 32 := Scalar.addi c0_i32_971 v886
  v887.toNat
def k0_dev21 (d0 : Dev nD) : Nat :=
  let c0_i32_987 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_18 : BitVec 32 := 4#32
  let v22 : BitVec 32 := Scalar.xori v2 c4_i32_18
  let c1_i32_986 : BitVec 32 := 1#32
  let v896 : BitVec 32 := Scalar.muli v22 c1_i32_986
  let v897 : BitVec 32 := Scalar.addi c0_i32_987 v896
  v897.toNat
def k0_dev22 (d0 : Dev nD) : Nat :=
  let c0_i32_1116 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_16 : BitVec 32 := 2#32
  let v20 : BitVec 32 := Scalar.xori v2 c2_i32_16
  let c1_i32_1115 : BitVec 32 := 1#32
  let v1022 : BitVec 32 := Scalar.muli v20 c1_i32_1115
  let v1023 : BitVec 32 := Scalar.addi c0_i32_1116 v1022
  v1023.toNat
def k0_dev23 (d0 : Dev nD) : Nat :=
  let c0_i32_1132 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_16 : BitVec 32 := 2#32
  let v20 : BitVec 32 := Scalar.xori v2 c2_i32_16
  let c1_i32_1131 : BitVec 32 := 1#32
  let v1032 : BitVec 32 := Scalar.muli v20 c1_i32_1131
  let v1033 : BitVec 32 := Scalar.addi c0_i32_1132 v1032
  v1033.toNat
def k0_dev24 (d0 : Dev nD) : Nat :=
  let c0_i32_1206 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_19 : BitVec 32 := 4#32
  let v23 : BitVec 32 := Scalar.xori v2 c4_i32_19
  let c1_i32_1205 : BitVec 32 := 1#32
  let v1097 : BitVec 32 := Scalar.muli v23 c1_i32_1205
  let v1098 : BitVec 32 := Scalar.addi c0_i32_1206 v1097
  v1098.toNat
def k0_dev25 (d0 : Dev nD) : Nat :=
  let c0_i32_1222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_19 : BitVec 32 := 4#32
  let v23 : BitVec 32 := Scalar.xori v2 c4_i32_19
  let c1_i32_1221 : BitVec 32 := 1#32
  let v1107 : BitVec 32 := Scalar.muli v23 c1_i32_1221
  let v1108 : BitVec 32 := Scalar.addi c0_i32_1222 v1107
  v1108.toNat
def k0_dev26 (d0 : Dev nD) : Nat :=
  let c0_i32_1350 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_20 : BitVec 32 := 4#32
  let v24 : BitVec 32 := Scalar.xori v2 c4_i32_20
  let c1_i32_1349 : BitVec 32 := 1#32
  let v1233 : BitVec 32 := Scalar.muli v24 c1_i32_1349
  let v1234 : BitVec 32 := Scalar.addi c0_i32_1350 v1233
  v1234.toNat
def k0_dev27 (d0 : Dev nD) : Nat :=
  let c0_i32_1366 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_20 : BitVec 32 := 4#32
  let v24 : BitVec 32 := Scalar.xori v2 c4_i32_20
  let c1_i32_1365 : BitVec 32 := 1#32
  let v1243 : BitVec 32 := Scalar.muli v24 c1_i32_1365
  let v1244 : BitVec 32 := Scalar.addi c0_i32_1366 v1243
  v1244.toNat
abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
variable {F : FTy → Type} [FloatOps F] [Named F]
def κ : String → Option EReal := fun
  | "scale_log2e" => some (((Real.sqrt 128)⁻¹ * (Real.log 2)⁻¹ : ℝ) : EReal)
  | _ => none
-- ==== ReferenceIdeal.lean ====
abbrev S256x1024 : Shape := ⟨2, ![256, 1024]⟩
abbrev S1024x1024 : Shape := ⟨2, ![1024, 1024]⟩
abbrev S32768x8x128 : Shape := ⟨3, ![32768, 8, 128]⟩
abbrev S256x8x128 : Shape := ⟨3, ![256, 8, 128]⟩
abbrev S8x256x32768 : Shape := ⟨3, ![8, 256, 32768]⟩
abbrev S_ : Shape := ⟨0, ![]⟩
abbrev S8x256 : Shape := ⟨2, ![8, 256]⟩
abbrev S8x256x1 : Shape := ⟨3, ![8, 256, 1]⟩
abbrev S8x128x256 : Shape := ⟨3, ![8, 128, 256]⟩
abbrev S256x8x1 : Shape := ⟨3, ![256, 8, 1]⟩

abbrev nBuf : Space → Nat
  | .hbm => 28
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S1024x1024, .f32⟩
  | .hbm, ⟨3, _⟩ => ⟨S32768x8x128, .f32⟩
  | .hbm, ⟨4, _⟩ => ⟨S32768x8x128, .f32⟩
  | .hbm, ⟨5, _⟩ => ⟨S256x1024, .f32⟩
  | .hbm, ⟨6, _⟩ => ⟨S256x8x128, .f32⟩
  | .hbm, ⟨7, _⟩ => ⟨S8x256x32768, .f32⟩
  | .hbm, ⟨8, _⟩ => ⟨S_, .f32⟩
  | .hbm, ⟨9, _⟩ => ⟨S_, .f32⟩
  | .hbm, ⟨10, _⟩ => ⟨S8x256x32768, .f32⟩
  | .hbm, ⟨11, _⟩ => ⟨S8x256x32768, .f32⟩
  | .hbm, ⟨12, _⟩ => ⟨S_, .f32⟩
  | .hbm, ⟨13, _⟩ => ⟨S8x256, .f32⟩
  | .hbm, ⟨14, _⟩ => ⟨S8x256x1, .f32⟩
  | .hbm, ⟨15, _⟩ => ⟨S8x256x32768, .f32⟩
  | .hbm, ⟨16, _⟩ => ⟨S8x256x32768, .f32⟩
  | .hbm, ⟨17, _⟩ => ⟨S8x256x32768, .f32⟩
  | .hbm, ⟨18, _⟩ => ⟨S_, .f32⟩
  | .hbm, ⟨19, _⟩ => ⟨S8x256, .f32⟩
  | .hbm, ⟨20, _⟩ => ⟨S8x256x1, .f32⟩
  | .hbm, ⟨21, _⟩ => ⟨S8x128x256, .f32⟩
  | .hbm, ⟨22, _⟩ => ⟨S256x8x128, .f32⟩
  | .hbm, ⟨23, _⟩ => ⟨S256x8x1, .f32⟩
  | .hbm, ⟨24, _⟩ => ⟨S256x8x128, .f32⟩
  | .hbm, ⟨25, _⟩ => ⟨S256x8x128, .f32⟩
  | .hbm, ⟨26, _⟩ => ⟨S256x1024, .f32⟩
  | .hbm, ⟨27, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Proof.Blocks.lean ====
/-
# The kernel's body as a sequence of named steps

The printed body is one straight line of several hundred operations.  Here the same operations are
grouped into steps — start the copy of a head's keys and values, wait for it, store a head's partial
result, send a chunk to the partner of a round, merge a chunk — each ONE definition at a symbolic head,
round and chunk, and `body_eq` states that the printed body is their sequence.
-/
module

public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch

@[expose] public section

noncomputable section

namespace Cert.TreeProof

open Cert.KernelIdeal Cert.KernelIdeal.Gen
open Idealize.ShloMosaic Idealize.SL.Sem

variable {F : FTy → Type} [FloatOps F] [Named F]

/-! ## Offsets in bounds, at symbolic indices -/

theorem inbKV (s : Fin 4) : ∀ a, (![s, 0, 0] : Fin 3 → Nat) a + S1x4096x128.size a ≤ S4x4096x128.size a := by
  revert s; decide
theorem inbArr (h : Fin 8) : ∀ a, (![0, h, 0] : Fin 3 → Nat) a + S4096x1x128.size a ≤ S4096x8x128.size a := by
  revert h; decide
theorem inbCp (s : Fin 4) (b : Fin 2) : ∀ a, (![s, b] : Fin 2 → Nat) a + S1x1.size a ≤ S4x2.size a := by
  revert s b; decide
theorem inbRdma (r : Fin 3) (k : Fin 4) (b : Fin 2) : ∀ a, (![r, k, b] : Fin 3 → Nat) a + S1x1x1.size a ≤ S3x4x2.size a := by
  revert r k b; decide
theorem inbO (j : Fin 6) (k : Fin 4) :
    ∀ a, (![j, 2 * k, 0, 0] : Fin 4 → Nat) a + S1x2x128x256.size a ≤ S6x8x128x256.size a := by
  revert j k; decide
theorem inbS (j : Fin 6) (k : Fin 4) :
    ∀ a, (![j, 4 * k, 0] : Fin 3 → Nat) a + S1x4x256.size a ≤ S6x16x256.size a := by
  revert j k; decide
theorem inbO1 (h : Fin 8) :
    ∀ a, (![0, h, 0, 0] : Fin 4 → Nat) a + S1x1x128x256.size a ≤ S6x8x128x256.size a := by
  revert h; decide
theorem inbS1 (n : Fin 16) :
    ∀ a, (![0, n, 0] : Fin 3 → Nat) a + S1x1x256.size a ≤ S6x16x256.size a := by
  revert n; decide
theorem inbS2 (j : Fin 6) (k : Fin 4) (b : Fin 2) :
    ∀ a, (![j, 4 * k + 2 * b, 0] : Fin 3 → Nat) a + S1x2x256.size a ≤ S6x16x256.size a := by
  revert j k b; decide
theorem inbWo (h : Fin 8) :
    ∀ a, (![128 * h, 0] : Fin 2 → Nat) a + S128x1024.size a ≤ S1024x1024.size a := by
  revert h; decide
theorem slicesQ (h : Fin 8) : S256x1024.Slices ![0, 128 * h] S256x128 := by
  revert h; decide

/-! ## Rectangles -/

abbrev rKV (s : Fin 4) : Rect S4x4096x128 := Rect.unit ![s, 0, 0] S1x4096x128.size (inbKV s)
abbrev rArr (h : Fin 8) : Rect S4096x8x128 := Rect.unit ![0, h, 0] S4096x1x128.size (inbArr h)
abbrev rO (j : Fin 6) (k : Fin 4) : Rect S6x8x128x256 := Rect.unit ![j, 2 * k, 0, 0] S1x2x128x256.size (inbO j k)
abbrev rS (j : Fin 6) (k : Fin 4) : Rect S6x16x256 := Rect.unit ![j, 4 * k, 0] S1x4x256.size (inbS j k)
abbrev rO1 (h : Fin 8) : Rect S6x8x128x256 := Rect.unit ![0, h, 0, 0] S1x1x128x256.size (inbO1 h)
abbrev rS1 (n : Fin 16) : Rect S6x16x256 := Rect.unit ![0, n, 0] S1x1x256.size (inbS1 n)
abbrev rS2 (j : Fin 6) (k : Fin 4) (b : Fin 2) : Rect S6x16x256 :=
  Rect.unit ![j, 4 * k + 2 * b, 0] S1x2x256.size (inbS2 j k b)
abbrev rWo (h : Fin 8) : Rect S1024x1024 := Rect.unit ![128 * h, 0] S128x1024.size (inbWo h)

theorem packO (j : Fin 6) (k : Fin 4) : (rO j k).PackedRows (EltTy.packing .bf16) := by
  revert j k; decide
theorem packO1 (h : Fin 8) : (rO1 h).PackedRows (EltTy.packing .bf16) := by
  revert h; decide
theorem wordsO (j : Fin 6) (k : Fin 4) : (rO j k).WholeWords (EltTy.packing .bf16) := by
  revert j k; decide

/-! ## Semaphores -/

/-- The semaphore of the copy into slot `s` of the keys' (`b = 0`) or the values' (`b = 1`) buffer. -/
abbrev cpSem (s : Fin 4) (b : Fin 2) : DmaSem sig :=
  ((cc0_scratch5.slice (Rect.unit (s := S4x2) ![s, b] S1x1.size (inbCp s b))).squeeze S_ squeezes_S1x1_S_).sem
/-- The semaphore of the copy of the output projection. -/
abbrev woSem : DmaSem sig := cc0_scratch6.sem
/-- Round `r`, chunk `k`: the sender's semaphore of the values (`b = 0`) or the statistics (`b = 1`). -/
abbrev sendSem (r : Fin 3) (k : Fin 4) (b : Fin 2) : DmaSem sig :=
  ((cc0_scratch7.slice (Rect.unit (s := S3x4x2) ![r, k, b] S1x1x1.size (inbRdma r k b))).squeeze S_ squeezes_S1x1x1_S_).sem
/-- Round `r`, chunk `k`: the receiver's semaphore. -/
abbrev recvSem (r : Fin 3) (k : Fin 4) (b : Fin 2) : DmaSem sig :=
  ((cc0_scratch8.slice (Rect.unit (s := S3x4x2) ![r, k, b] S1x1x1.size (inbRdma r k b))).squeeze S_ squeezes_S1x1x1_S_).sem
/-- The runtime's barrier semaphore. -/
abbrev barS : Sem sig := (SemArray.scalar (d := ![]) (sig.barrier 0 rfl) : Sems sig S_).sem

/-! ## Memrefs -/

abbrev kbuf : Memref sig .tc .vmem S4x4096x128 .f32 := Memref.whole cc0_scratch0
abbrev vbuf : Memref sig .tc .vmem S4x4096x128 .f32 := Memref.whole cc0_scratch1
abbrev wobuf : Memref sig .tc .vmem S1024x1024 .f32 := Memref.whole cc0_scratch2
abbrev outc : Memref sig .tc .vmem S6x8x128x256 .bf16 := Memref.whole cc0_scratch3
abbrev statc : Memref sig .tc .vmem S6x16x256 .f32 := Memref.whole cc0_scratch4
abbrev woHbm : Memref sig .tc .hbm S1024x1024 .f32 := Memref.whole main_arg2
abbrev kHbm : Memref sig .tc .hbm S4096x8x128 .f32 := Memref.whole main_arg3
abbrev vHbm : Memref sig .tc .hbm S4096x8x128 .f32 := Memref.whole main_arg4

/-- Slot `s` of a key or value buffer, as a copy writes it. -/
abbrev kvSlot (M : Memref sig .tc .vmem S4x4096x128 .f32) (s : Fin 4) : Memref sig .tc .vmem S4096x128 .f32 :=
  (M.slice (rKV s) (fun _ => rfl)).squeeze S4096x128 squeezes_S1x4096x128_S4096x128
/-- Head `h` of the device's keys or values, as a copy reads it. -/
abbrev kvHead (M : Memref sig .tc .hbm S4096x8x128 .f32) (h : Fin 8) : Memref sig .tc .hbm S4096x128 .f32 :=
  (M.slice (rArr h) (fun _ => rfl)).squeeze S4096x128 squeezes_S4096x1x128_S4096x128
/-- Row `j`, chunk `k` of the values' exchange buffer. -/
abbrev oSlot (j : Fin 6) (k : Fin 4) : Memref sig .tc .vmem S1x2x128x256 .bf16 := outc.slice (rO j k) (fun _ => rfl)
/-- Row `j`, chunk `k` of the statistics' exchange buffer. -/
abbrev sSlot (j : Fin 6) (k : Fin 4) : Memref sig .tc .vmem S1x4x256 .f32 := statc.slice (rS j k) (fun _ => rfl)
abbrev oSlotQ (j : Fin 6) (k : Fin 4) : Memref sig .tc .vmem S2x128x256 .bf16 :=
  (oSlot j k).squeeze S2x128x256 squeezes_S1x2x128x256_S2x128x256
abbrev sSlotQ (j : Fin 6) (k : Fin 4) : Memref sig .tc .vmem S4x256 .f32 :=
  (sSlot j k).squeeze S4x256 squeezes_S1x4x256_S4x256

/-- The row of round `r`'s own contribution, and the row its partner's lands in. -/
abbrev ownRow (r : Fin 3) : Fin 6 := ⟨2 * r, by omega⟩
abbrev inRow (r : Fin 3) : Fin 6 := ⟨2 * r + 1, by omega⟩
/-- The buffer slot of head `h`. -/
abbrev slotOf (h : Fin 8) : Fin 4 := ⟨h % 4, by omega⟩
/-- The chunk of head `h`. -/
abbrev chunkOf (h : Fin 8) : Fin 4 := ⟨h / 2, by omega⟩
/-- The first and the second head of a chunk. -/
abbrev headOf (k : Fin 4) (i : Fin 2) : Fin 8 := ⟨2 * k + i, by omega⟩

/-- A program of the kernel. -/
abbrev KP (F : FTy → Type) : Type → Type 1 := Prog (TpuEff nD τ sig (Elt F) Λ₀ .tc)

/-! ## The steps -/

/-- Start the copies of head `h`'s keys and values into slot `s`. -/
def headStart (h : Fin 8) (s : Fin 4) : KP F PUnit := do
  Prog.lift (.enqueueDma (kvHead kHbm h) (.here (kvSlot kbuf s)) (.dma (cpSem s 0)) ((View.wordExact_bits rfl).reshape _ _)
    ((View.wordExact_bits rfl).reshape _ _) ⟨Or.inl rfl, trivial⟩)
  Prog.lift (.enqueueDma (kvHead vHbm h) (.here (kvSlot vbuf s)) (.dma (cpSem s 1)) ((View.wordExact_bits rfl).reshape _ _)
    ((View.wordExact_bits rfl).reshape _ _) ⟨Or.inl rfl, trivial⟩)

/-- Wait for both copies of head `h` into slot `s`. -/
def headWait (h : Fin 8) (s : Fin 4) : KP F PUnit := do
  Prog.lift (.waitDma2 (cpSem s 0) (kvHead kHbm h) (kvSlot kbuf s) ((View.wordExact_bits rfl).reshape _ _)
    ((View.wordExact_bits rfl).reshape _ _))
  Prog.lift (.waitDma2 (cpSem s 1) (kvHead vHbm h) (kvSlot vbuf s) ((View.wordExact_bits rfl).reshape _ _)
    ((View.wordExact_bits rfl).reshape _ _))

/-- Load slot `s` of the keys' or values' buffer. -/
def kvLoad (M : Memref sig .tc .vmem S4x4096x128 .f32) (s : Fin 4) : KP F (Vec F S1x4096x128 .f32) :=
  Prog.lift (.load M (rKV s).toLoadRect (View.loadsAt_vmem h_S1x4096x128))

/-- Store head `h`'s partial result: the weighted values and the two statistics (each store preceded by the
    load of what it overwrites). -/
def headStore (h : Fin 8) (o : Vec F S1x1x128x256 .bf16) (mt lt : Vec F S1x1x256 .f32) (nm nl : Fin 16) : KP F PUnit := do
  let _ ← Prog.lift (.load outc (rO1 h).toLoadRect (View.loadsAt_vmem h_S1x1x128x256))
  Prog.lift (.store outc (rO1 h) o Finset.univ (View.stores_vmem h_S1x1x128x256
    ((Memref.isWhole_whole _).storeExact_slice rfl _ (packO1 h)) (fun _ => rfl)) (.inl rfl))
  let _ ← Prog.lift (.load statc (rS1 nm).toLoadRect (View.loadsAt_vmem h_S1x1x256))
  Prog.lift (.store statc (rS1 nm) mt Finset.univ (View.stores_vmem_bits_univ h_S1x1x256 rfl) (.inl rfl))
  let _ ← Prog.lift (.load statc (rS1 nl).toLoadRect (View.loadsAt_vmem h_S1x1x256))
  Prog.lift (.store statc (rS1 nl) lt Finset.univ (View.stores_vmem_bits_univ h_S1x1x256 rfl) (.inl rfl))

/-- Send chunk `k` of round `r` — values, then statistics — to the device `p`. -/
def sendChunk (r : Fin 3) (k : Fin 4) (p p' : Dev nD) : KP F PUnit := do
  Prog.lift (.enqueueDma (oSlotQ (ownRow r) k) (.remote (Dev.tc p) (oSlotQ (inRow r) k) (.dma (sendSem r k 0))) (.dma (recvSem r k 0))
    (((Memref.isWhole_whole _).wordExact_slice rfl _ (wordsO _ _)).reshape _ _)
    (((Memref.isWhole_whole _).wordExact_slice rfl _ (wordsO _ _)).reshape _ _) ⟨⟨rfl, Or.inl rfl⟩, trivial⟩)
  Prog.lift (.enqueueDma (sSlotQ (ownRow r) k) (.remote (Dev.tc p') (sSlotQ (inRow r) k) (.dma (sendSem r k 1))) (.dma (recvSem r k 1))
    ((View.wordExact_bits rfl).reshape _ _) ((View.wordExact_bits rfl).reshape _ _) ⟨⟨rfl, Or.inl rfl⟩, trivial⟩)

/-- Wait for the partner's chunk `k` of round `r`. -/
def waitRecv (r : Fin 3) (k : Fin 4) : KP F PUnit := do
  Prog.lift (.waitDma2 (recvSem r k 0) (oSlotQ (ownRow r) k) (oSlotQ (inRow r) k)
    (((Memref.isWhole_whole _).wordExact_slice rfl _ (wordsO _ _)).reshape _ _)
    (((Memref.isWhole_whole _).wordExact_slice rfl _ (wordsO _ _)).reshape _ _))
  Prog.lift (.waitDma2 (recvSem r k 1) (sSlotQ (ownRow r) k) (sSlotQ (inRow r) k)
    ((View.wordExact_bits rfl).reshape _ _) ((View.wordExact_bits rfl).reshape _ _))

/-- Wait until chunk `k` of round `r` has left. -/
def waitSend (r : Fin 3) (k : Fin 4) : KP F PUnit := do
  Prog.lift (.waitDma2 (sendSem r k 0) (oSlotQ (inRow r) k) (oSlotQ (ownRow r) k)
    (((Memref.isWhole_whole _).wordExact_slice rfl _ (wordsO _ _)).reshape _ _)
    (((Memref.isWhole_whole _).wordExact_slice rfl _ (wordsO _ _)).reshape _ _))
  Prog.lift (.waitDma2 (sendSem r k 1) (sSlotQ (inRow r) k) (sSlotQ (ownRow r) k)
    ((View.wordExact_bits rfl).reshape _ _) ((View.wordExact_bits rfl).reshape _ _))

/-- What a merge reads of chunk `k` of round `r`: the two devices' maxima, sums and weighted values. -/
structure Pair (F : FTy → Type) where
  m₁ : Vec F S1x2x256 .f32
  l₁ : Vec F S1x2x256 .f32
  m₂ : Vec F S1x2x256 .f32
  l₂ : Vec F S1x2x256 .f32
  o₁ : Vec F S1x2x128x256 .bf16
  o₂ : Vec F S1x2x128x256 .bf16

/-- The loads of a merge. -/
def mergeLoads (r : Fin 3) (k : Fin 4) : KP F (Pair F) := do
  let m₁ ← Prog.lift (.load statc (rS2 (ownRow r) k 0).toLoadRect (View.loadsAt_vmem h_S1x2x256))
  let l₁ ← Prog.lift (.load statc (rS2 (ownRow r) k 1).toLoadRect (View.loadsAt_vmem h_S1x2x256))
  let m₂ ← Prog.lift (.load statc (rS2 (inRow r) k 0).toLoadRect (View.loadsAt_vmem h_S1x2x256))
  let l₂ ← Prog.lift (.load statc (rS2 (inRow r) k 1).toLoadRect (View.loadsAt_vmem h_S1x2x256))
  let o₁ ← Prog.lift (.load outc (rO (ownRow r) k).toLoadRect (View.loadsAt_vmem h_S1x2x128x256))
  let o₂ ← Prog.lift (.load outc (rO (inRow r) k).toLoadRect (View.loadsAt_vmem h_S1x2x128x256))
  pure ⟨m₁, l₁, m₂, l₂, o₁, o₂⟩

/-- The merged maximum, sum and weighted values, as stored. -/
def Pair.m (w : Pair F) : Vec F S1x2x256 .f32 := k0_pay51 (k0_pay45 w.m₁ w.m₂)
def Pair.l (w : Pair F) : Vec F S1x2x256 .f32 := k0_pay52 (k0_pay48 w.m₁ w.l₁ w.m₂ w.l₂)
def Pair.o (w : Pair F) : Vec F S1x2x128x256 .bf16 := k0_pay50 (k0_pay49 w.m₁ w.m₂ w.o₁ w.o₂)

/-- Store merged chunk `k` into row `j`. -/
def mergeStore (j : Fin 6) (k : Fin 4) (w : Pair F) : KP F PUnit := do
  let _ ← Prog.lift (.load outc (rO j k).toLoadRect (View.loadsAt_vmem h_S1x2x128x256))
  Prog.lift (.store outc (rO j k) w.o Finset.univ (View.stores_vmem h_S1x2x128x256
    ((Memref.isWhole_whole _).storeExact_slice rfl _ (packO j k)) (fun _ => rfl)) (.inl rfl))
  let _ ← Prog.lift (.load statc (rS2 j k 0).toLoadRect (View.loadsAt_vmem h_S1x2x256))
  Prog.lift (.store statc (rS2 j k 0) w.m Finset.univ (View.stores_vmem_bits_univ h_S1x2x256 rfl) (.inl rfl))
  let _ ← Prog.lift (.load statc (rS2 j k 1).toLoadRect (View.loadsAt_vmem h_S1x2x256))
  Prog.lift (.store statc (rS2 j k 1) w.l Finset.univ (View.stores_vmem_bits_univ h_S1x2x256 rfl) (.inl rfl))

/-- Load the rows of the output projection that head `h` multiplies. -/
def woLoad (h : Fin 8) : KP F (Vec F S128x1024 .f32) :=
  Prog.lift (.load wobuf (rWo h).toLoadRect (View.loadsAt_vmem h_S128x1024))

/-- The last merge of a chunk: normalise, and multiply by the chunk's rows of the output projection. -/
def Pair.proj (w : Pair F) (w₀ w₁ : Vec F S128x1024 .f32) : FVec F S256x1024 .f32 :=
  k0_pay114 (shapeCast S2x256 w.m₁ shapeCasts_S1x2x256_S2x256) (shapeCast S2x256 w.l₁ shapeCasts_S1x2x256_S2x256)
    (shapeCast S2x256 w.m₂ shapeCasts_S1x2x256_S2x256) (shapeCast S2x256 w.l₂ shapeCasts_S1x2x256_S2x256) w.o₁ w.o₂ w₀ w₁

/-- Merge chunk `k` of round `r < 2` into row `2r + 2`. -/
def mergeStep (r : Fin 3) (j : Fin 6) (k : Fin 4) : KP F PUnit := do
  waitRecv r k
  let w ← mergeLoads r k
  mergeStore j k w

/-- Merge chunk `k` of the last round and project it. -/
def projStep (k : Fin 4) : KP F (FVec F S256x1024 .f32) := do
  waitRecv 2 k
  let w ← mergeLoads 2 k
  let w₀ ← woLoad (headOf k 0)
  let w₁ ← woLoad (headOf k 1)
  pure (w.proj w₀ w₁)

/-- A head's scores from the queries and its keys. -/
def scores (h : Fin 8) (qs : FVec F S256x1024 .bf16) (kb : Vec F S1x4096x128 .f32) : FVec F S4096x256 .f32 :=
  matmul dot_S4096x128_S256x128_S4096x256_1_1_0_0_n_n none
    (truncf .bf16 (shapeCast S4096x128 kb shapeCasts_S1x4096x128_S4096x128 : FVec F S4096x128 .f32) bitsLt_bf16_f32)
    (extractStridedSlice S256x128 ![0, 128 * (h : Nat)] qs (slicesQ h) : FVec F S256x128 .bf16) (constant S4096x256 .f32 0x00000000#32)

/-- Start the copy of the output projection. -/
def woStart : KP F PUnit :=
  Prog.lift (.enqueueDma woHbm (.here wobuf) (.dma woSem) (Memref.isWhole_whole _).wordExact (Memref.isWhole_whole _).wordExact
    ⟨Or.inl rfl, trivial⟩)

/-- Wait for it. -/
def woWait : KP F PUnit :=
  Prog.lift (.waitDma2 woSem woHbm wobuf (Memref.isWhole_whole _).wordExact (Memref.isWhole_whole _).wordExact)

/-- Load the staged input and query projection. -/
def xLoad : KP F (Vec F S256x1024 .f32) :=
  Prog.lift (.load (Memref.whole cc0_stg0_0) (Rect.unit (s := S256x1024) ![0, 0] S256x1024.size inb_S256x1024_S256x1024_0_0).toLoadRect
    (View.loadsAt_vmem h_S256x1024))
def wqLoad : KP F (Vec F S1024x1024 .f32) :=
  Prog.lift (.load (Memref.whole cc0_stg1_0) (Rect.unit (s := S1024x1024) ![0, 0] S1024x1024.size inb_S1024x1024_S1024x1024_0_0).toLoadRect
    (View.loadsAt_vmem h_S1024x1024))

/-- Store the result. -/
def outStore (w : Vec F S256x1024 .f32) : KP F PUnit := do
  let _ ← Prog.lift (.load (Memref.whole cc0_stg2_0) (Rect.unit (s := S256x1024) ![0, 0] S256x1024.size inb_S256x1024_S256x1024_0_0).toLoadRect
    (View.loadsAt_vmem h_S256x1024))
  Prog.lift (.store (Memref.whole cc0_stg2_0) (Rect.unit (s := S256x1024) ![0, 0] S256x1024.size inb_S256x1024_S256x1024_0_0) w Finset.univ
    (View.stores_vmem_bits_univ h_S256x1024 rfl) (.inl rfl))

/-- Head `h` stored from its scores and its values. -/
def headOut (h : Fin 8) (nm nl : Fin 16) (st : FVec F S4096x256 .f32) (vb : Vec F S1x4096x128 .f32) : KP F PUnit :=
  headStore h (k0_pay8 st vb) (k0_pay9 (k0_pay5 st)) (k0_pay10 (k0_pay7 st)) nm nl

/-- The body, step by step. -/
def bodyP : KP F PUnit := do
  let d0 : Dev nD ← Prog.lift .deviceId
  semSignalWord (⟨k0_dev1 d0, k0_dev1_lt d0⟩ : Dev nD) barS 1#32
  semSignalWord (⟨k0_dev2 d0, k0_dev2_lt d0⟩ : Dev nD) barS 1#32
  semSignalWord (⟨k0_dev3 d0, k0_dev3_lt d0⟩ : Dev nD) barS 1#32
  headStart 0 0
  headStart 1 1
  headStart 2 2
  woStart
  let x ← xLoad
  let wq ← wqLoad
  semWaitWord barS 3#32
  headWait 0 0
  let kb0 ← kvLoad kbuf 0
  headWait 1 1
  let kb1 ← kvLoad kbuf 1
  let vb0 ← kvLoad vbuf 0
  headStart 3 3
  headOut 0 0 2 (scores 0 (k0_pay1 x wq) kb0) vb0
  headWait 2 2
  let kb2 ← kvLoad kbuf 2
  let vb1 ← kvLoad vbuf 1
  headStart 4 0
  headOut 1 1 3 (scores 1 (k0_pay1 x wq) kb1) vb1
  sendChunk 0 0 ⟨k0_dev4 d0, k0_dev4_lt d0⟩ ⟨k0_dev5 d0, k0_dev5_lt d0⟩
  headWait 3 3
  let kb3 ← kvLoad kbuf 3
  let vb2 ← kvLoad vbuf 2
  headStart 5 1
  headOut 2 4 6 (scores 2 (k0_pay1 x wq) kb2) vb2
  headWait 4 0
  let kb4 ← kvLoad kbuf 0
  let vb3 ← kvLoad vbuf 3
  headStart 6 2
  headOut 3 5 7 (scores 3 (k0_pay1 x wq) kb3) vb3
  sendChunk 0 1 ⟨k0_dev6 d0, k0_dev6_lt d0⟩ ⟨k0_dev7 d0, k0_dev7_lt d0⟩
  headWait 5 1
  let kb5 ← kvLoad kbuf 1
  let vb4 ← kvLoad vbuf 0
  headStart 7 3
  headOut 4 8 10 (scores 4 (k0_pay1 x wq) kb4) vb4
  mergeStep 0 2 0
  sendChunk 1 0 ⟨k0_dev8 d0, k0_dev8_lt d0⟩ ⟨k0_dev9 d0, k0_dev9_lt d0⟩
  headWait 6 2
  let kb6 ← kvLoad kbuf 2
  let vb5 ← kvLoad vbuf 1
  headOut 5 9 11 (scores 5 (k0_pay1 x wq) kb5) vb5
  sendChunk 0 2 ⟨k0_dev10 d0, k0_dev10_lt d0⟩ ⟨k0_dev11 d0, k0_dev11_lt d0⟩
  headWait 7 3
  let kb7 ← kvLoad kbuf 3
  let vb6 ← kvLoad vbuf 2
  headOut 6 12 14 (scores 6 (k0_pay1 x wq) kb6) vb6
  mergeStep 0 2 1
  sendChunk 1 1 ⟨k0_dev12 d0, k0_dev12_lt d0⟩ ⟨k0_dev13 d0, k0_dev13_lt d0⟩
  let vb7 ← kvLoad vbuf 3
  headOut 7 13 15 (scores 7 (k0_pay1 x wq) kb7) vb7
  sendChunk 0 3 ⟨k0_dev14 d0, k0_dev14_lt d0⟩ ⟨k0_dev15 d0, k0_dev15_lt d0⟩
  mergeStep 1 4 0
  sendChunk 2 0 ⟨k0_dev16 d0, k0_dev16_lt d0⟩ ⟨k0_dev17 d0, k0_dev17_lt d0⟩
  woWait
  mergeStep 0 2 2
  sendChunk 1 2 ⟨k0_dev18 d0, k0_dev18_lt d0⟩ ⟨k0_dev19 d0, k0_dev19_lt d0⟩
  mergeStep 1 4 1
  sendChunk 2 1 ⟨k0_dev20 d0, k0_dev20_lt d0⟩ ⟨k0_dev21 d0, k0_dev21_lt d0⟩
  let a0 ← projStep 0
  mergeStep 0 2 3
  sendChunk 1 3 ⟨k0_dev22 d0, k0_dev22_lt d0⟩ ⟨k0_dev23 d0, k0_dev23_lt d0⟩
  mergeStep 1 4 2
  sendChunk 2 2 ⟨k0_dev24 d0, k0_dev24_lt d0⟩ ⟨k0_dev25 d0, k0_dev25_lt d0⟩
  let a1 ← projStep 1
  mergeStep 1 4 3
  sendChunk 2 3 ⟨k0_dev26 d0, k0_dev26_lt d0⟩ ⟨k0_dev27 d0, k0_dev27_lt d0⟩
  let a2 ← projStep 2
  let a3 ← projStep 3
  outStore (addf (addf a0 a1) (addf a2 a3))
  waitSend 0 0
  waitSend 0 1
  waitSend 0 2
  waitSend 0 3
  waitSend 1 0
  waitSend 1 1
  waitSend 1 2
  waitSend 1 3
  waitSend 2 0
  waitSend 2 1
  waitSend 2 2
  waitSend 2 3

end Cert.TreeProof

end
-- ==== Proof.Setting.lean ====
/-
# The resources a device's run is stated in

The resource algebra — the launch library's copy of the rounds algebra, the exchange protocol's, and the counters of
the device's own copies —, the machine at launch, and the three rules every step is made of: a load of part of a slot,
a store to part of a slot, and a copy between squeezed slots.
-/
module

public import proofs.«01_k».proof.Proof.Blocks
public import Idealize.ShloMosaic.Lib.Pipeline.Launch
public import Idealize.ShloMosaic.Lib.Pipeline.Kit
public import Idealize.ShloMosaic.Lib.Tactic

@[expose] public section

noncomputable section

namespace Cert.TreeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The algebra -/

/-- The exchange protocol's rounds; a duty is named by a round of the exchange. -/
abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange protocol's place in the algebra: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

abbrev 𝒱₀ : Variants := Variants.none

/-- A step of the kernel on device `c`. -/
abbrev wpK (c : Dev nD) {α : Type} (p : KP F α) (Q : α → sProp 𝕄) : sProp 𝕄 :=
  wp frame (wpE (defs₀ (F := F)) 𝒱₀ (c : Thread nD τ) none) Set.univ p Q

/-! ## Part of a slot -/

section Part

variable {sh : Shape} {e : EltTy} {m : Memref sig .tc .vmem sh e} {R R' : Rect sh} (hR : ∀ a, R.stride a = 1)
  (ρ : R'.shape.Idx → R.shape.Idx) (hρ : ∀ y, R'.emb y = R.emb (ρ y))
include hρ

omit [FloatOps F] [Named F] in
theorem part_subset : (m.access R').set ⊆ (m.slice R hR).view.set := by
  intro i hi
  obtain ⟨x, -, rfl⟩ := Finset.mem_map.mp hi
  refine Finset.mem_map.mpr ⟨ρ x, Finset.mem_univ _, ?_⟩
  show m.view.emb (R.emb (ρ x)) = m.view.emb (R'.emb x)
  rw [hρ]

/-- Part of a slot loaded: what the slot holds there. -/
theorem wp_load_part (c : Dev nD) {hl : m.view.LoadsAt R'.toLoadRect} {α : Type} {k : (R'.shape.Idx → Elt F e) → KP F α} {Q : α → sProp 𝕄}
    {q : PosShare TreeShare} {X : R.shape.Idx → Elt F e} :
    (owns (c : Thread nD τ) (m.slice R hR) q X : sProp 𝕄)
      ⊢ iprop((owns (c : Thread nD τ) (m.slice R hR) q X -∗ wpK c (k fun y => X (ρ y)) Q)
          -∗ wpK c (.op (.load m R'.toLoadRect hl) k) Q) := by
  iintro H Hk
  ihave H' := (show owns (c : Thread nD τ) (m.slice R hR) q X
      ⊢ (iprop(∃ f, ⌜(m.slice R hR).view.read (Elt F) f = X⌝ ∗ (m.view.loc (c : Thread nD τ) ↦[(m.slice R hR).view.set]{q} f)) : sProp 𝕄)
      from BI.Entails.refl _) $$ H
  icases H' with ⟨%f, %hf, H⟩
  iapply (wp_load_rect 𝒱₀ (c : Thread nD τ) none Set.univ (m := m) (r := R') (part_subset hR ρ hρ)) $$ H
  iintro H
  rw [show (m.access R').read (Elt F) f = fun y => X (ρ y) from funext fun y => by
    rw [← hf]; show m.view.read (Elt F) f (R'.emb y) = m.view.read (Elt F) f (R.emb (ρ y)); rw [hρ]]
  iapply Hk
  unfold owns
  iexists f
  isplitr; · ipureintro; exact hf
  iexact H

/-- Part of a slot stored: the slot holds the stored values there and what it held elsewhere. -/
theorem wp_store_part (c : Dev nD) {w : R'.shape.Idx → Elt F e} {hx : (m.access R').Stores Finset.univ}
    {hm : Finset.univ = Finset.univ ∨ ∀ a, R'.stride a = 1} {α : Type} {k : PUnit → KP F α} {Q : α → sProp 𝕄}
    {X : R.shape.Idx → Elt F e} (X' : R.shape.Idx → Elt F e) (hin : ∀ y, X' (ρ y) = w y) (hout : ∀ j, (∀ y, ρ y ≠ j) → X' j = X j) :
    (owns (c : Thread nD τ) (m.slice R hR) fullShare X : sProp 𝕄)
      ⊢ iprop((owns (c : Thread nD τ) (m.slice R hR) fullShare X' -∗ wpK c (k ⟨⟩) Q)
          -∗ wpK c (.op (.store m R' w Finset.univ hx hm) k) Q) := by
  iintro H Hk
  ihave H' := (show owns (c : Thread nD τ) (m.slice R hR) fullShare X
      ⊢ (iprop(∃ f, ⌜(m.slice R hR).view.read (Elt F) f = X⌝ ∗ (m.view.loc (c : Thread nD τ) ↦[(m.slice R hR).view.set]{fullShare} f)) : sProp 𝕄)
      from BI.Entails.refl _) $$ H
  icases H' with ⟨%f, %hf, H⟩
  iapply (wp_store 𝒱₀ (c : Thread nD τ) none Set.univ (m := m) (r := R') (Mk := Finset.univ) (by
    rw [View.setOn_univ]; exact part_subset hR ρ hρ)) $$ H
  iintro H
  iapply Hk
  unfold owns
  iexists _
  isplitr
  · ipureintro
    show (m.slice R hR).view.read (Elt F) ((m.access R').write (Elt F) f w Finset.univ) = X'
    funext j
    by_cases h : ∃ y, ρ y = j
    · obtain ⟨y, rfl⟩ := h
      rw [hin]
      show m.view.read (Elt F) ((m.view.slice R').write (Elt F) f w Finset.univ) (R.emb (ρ y)) = w y
      rw [← hρ]
      exact congrFun (View.read_write_univ (v := m.view.slice R') f w) y
    · have hne : ∀ y, ρ y ≠ j := fun y hy => h ⟨y, hy⟩
      rw [hout j hne, ← hf]
      have hnm : m.view.emb (R.emb j) ∉ (m.view.slice R').setOn Finset.univ := by
        rw [View.setOn_univ]
        intro hi
        obtain ⟨x, -, hx⟩ := Finset.mem_map.mp hi
        have hx' : m.view.emb (R'.emb x) = m.view.emb (R.emb j) := hx
        rw [hρ] at hx'
        exact hne x (R.emb.injective (m.view.emb.injective hx'))
      show m.view.read (Elt F) _ (R.emb j) = m.view.read (Elt F) f (R.emb j)
      unfold View.read
      rw [View.write_of_not_mem _ _ _ hnm]
  · iexact H

end Part

/-! ## Copies between squeezed slots -/

section Squeezed

variable {sp sp' : Space} {s s₁ s' : Shape} {e : EltTy}

omit [FloatOps F] [Named F] in
/-- Copied from one squeezed memref to another, the target reads what the source read. -/
theorem read_copied (a : Memref sig .tc sp s e) (b : Memref sig .tc sp' s e) (h : s.Squeezes s')
    (fa : a.view.ty.Contents (Elt F)) (fb : b.view.ty.Contents (Elt F)) :
    b.view.read (Elt F) ((b.squeeze s' h).view.write (Elt F) fb ((a.squeeze s' h).view.read (Elt F) fa) Finset.univ)
      = a.view.read (Elt F) fa := by
  have key := View.read_write_univ (v := (b.squeeze s' h).view) fb ((a.squeeze s' h).view.read (Elt F) fa)
  funext j
  obtain ⟨j', rfl⟩ := (Shape.reshapeEquiv h.numel_eq).surjective j
  exact congrFun key j'

omit [FloatOps F] [Named F] in
/-- The same with the two memrefs of different shapes: the target reads the shape-cast. -/
theorem read_copied_cast (a : Memref sig .tc sp s₁ e) (b : Memref sig .tc sp' s e) (h₁ : s₁.Squeezes s') (h : s.Squeezes s')
    (hc : s'.ShapeCasts s) (fa : a.view.ty.Contents (Elt F)) (fb : b.view.ty.Contents (Elt F)) :
    b.view.read (Elt F) ((b.squeeze s' h).view.write (Elt F) fb ((a.squeeze s' h₁).view.read (Elt F) fa) Finset.univ)
      = shapeCast s ((a.squeeze s' h₁).view.read (Elt F) fa) hc := by
  have key := View.read_write_univ (v := (b.squeeze s' h).view) fb ((a.squeeze s' h₁).view.read (Elt F) fa)
  funext j
  obtain ⟨j', rfl⟩ := (Shape.reshapeEquiv h.numel_eq).surjective j
  refine (congrFun key j').trans ?_
  unfold shapeCast
  rw [Shape.reshapeEquiv_reshapeEquiv, Shape.reshapeEquiv_self]

end Squeezed

end Cert.TreeProof

end
-- ==== Proof.Values.lean ====
/-
# What a device computes

For each device: its scaled queries, the partial result of every head over the device's own keys and values, the chunk
(two heads) it holds before each round of the exchange, and the output.  Everything is a function of the launch memory
`m`, at any float interpretation.
-/
module

public import proofs.«01_k».proof.Proof.Setting
public import Idealize.ShloMosaic.Lib.ValueIdxCore

@[expose] public section

noncomputable section

namespace Cert.TreeProof

open Cert.KernelIdeal Cert.KernelIdeal.Gen
open Idealize.ShloMosaic Idealize.ShloMosaic.ValueIdx
open Idealize.ShloMosaic.TcCoe
open Idealize.SL Idealize.SL.Sem

variable {F : FTy → Type} [FloatOps F] [Named F]

/-! ## The exchange's partners -/

/-- The partner of device `c` in round `r`: the device whose number differs in bit `r`. -/
def peer (r : Fin 3) (c : Dev nD) : Dev nD := ⟨c.val ^^^ (2 ^ r.val), by revert r c; decide⟩

theorem peer_peer (r : Fin 3) (c : Dev nD) : peer r (peer r c) = c := by revert r c; decide
theorem peer_ne (r : Fin 3) (c : Dev nD) : peer r c ≠ c := by revert r c; decide
theorem peer_inj (r r' : Fin 3) (c : Dev nD) : peer r c = peer r' c ↔ r = r' := by revert r r' c; decide

/-! ## Chunks -/

/-- A chunk: two heads' weighted values and, in four rows, their two maxima and two sums. -/
structure Chunk (F : FTy → Type) where
  o : Vec F S1x2x128x256 .bf16
  s : Vec F S1x4x256 .f32

/-- Where the pair of rows `b` of the statistics (maxima 0, sums 1) sits in the four. -/
def sub2 (b : Fin 2) (y : S1x2x256.Idx) : S1x4x256.Idx :=
  ix3 0 ⟨2 * b.val + (y 1).val, by have h : (y 1).val < 2 := (y 1).isLt; omega⟩ (y 2)
/-- Where a head's weighted values sit in its chunk. -/
def subO (i : Fin 2) (y : S1x1x128x256.Idx) : S1x2x128x256.Idx := ix4 0 i (y 2) (y 3)
/-- Where a head's row of statistics sits in its chunk. -/
def subS (n : Fin 4) (y : S1x1x256.Idx) : S1x4x256.Idx := ix3 0 n (y 2)

/-- Two pairs of rows, one under the other. -/
def joinS (a b : Vec F S1x2x256 .f32) : Vec F S1x4x256 .f32 := fun j =>
  if h : (j 1).val < 2 then a (ix3 0 ⟨(j 1).val, h⟩ (j 2))
  else b (ix3 0 ⟨(j 1).val - 2, by have h' : (j 1).val < 4 := (j 1).isLt; omega⟩ (j 2))

/-- What a merge of the chunks `a` (one's own) and `b` (the partner's) reads. -/
def pairOf (a b : Chunk F) : Pair F :=
  ⟨fun y => a.s (sub2 0 y), fun y => a.s (sub2 1 y), fun y => b.s (sub2 0 y), fun y => b.s (sub2 1 y), a.o, b.o⟩

/-- The merged chunk. -/
def mergeC (a b : Chunk F) : Chunk F := ⟨(pairOf a b).o, joinS (pairOf a b).m (pairOf a b).l⟩

/-! ## A device's values -/

variable (m : (ℓ : Loc nD τ sig) → Buf (Elt F) ℓ)

/-- The input and the query projection as staged. -/
def xstg (c : Dev nD) : Vec F S256x1024 .f32 :=
  (win0_0.blk (0 : Fin 1)).view.read (Elt F) (m ((c : Thread nD τ).loc main_arg0))
def wqstg (c : Dev nD) : Vec F S1024x1024 .f32 :=
  (win0_1.blk (0 : Fin 1)).view.read (Elt F) (m ((c : Thread nD τ).loc main_arg1))

/-- Head `h` of keys or values held in `f`, as it lies in a buffer slot. -/
def slab (M : Memref sig .tc .hbm S4096x8x128 .f32) (f : M.view.ty.Contents (Elt F)) (h : Fin 8) : Vec F S1x4096x128 .f32 :=
  shapeCast S1x4096x128 ((kvHead M h).view.read (Elt F) f) (by decide)

def kSlab (c : Dev nD) (h : Fin 8) : Vec F S1x4096x128 .f32 := slab kHbm (m ((c : Thread nD τ).loc main_arg3)) h
def vSlab (c : Dev nD) (h : Fin 8) : Vec F S1x4096x128 .f32 := slab vHbm (m ((c : Thread nD τ).loc main_arg4)) h

/-- Head `h`'s scores, weighted values, maximum and sum over the device's own keys. -/
def st (c : Dev nD) (h : Fin 8) : FVec F S4096x256 .f32 := scores h (k0_pay1 (xstg m c) (wqstg m c)) (kSlab m c h)
def headO (c : Dev nD) (h : Fin 8) : FVec F S1x1x128x256 .bf16 := k0_pay8 (st m c h) (vSlab m c h)
def headM (c : Dev nD) (h : Fin 8) : FVec F S1x1x256 .f32 := k0_pay9 (k0_pay5 (st m c h))
def headL (c : Dev nD) (h : Fin 8) : FVec F S1x1x256 .f32 := k0_pay10 (k0_pay7 (st m c h))

/-- The chunk a device computes from its own keys and values. -/
def chunk0 (c : Dev nD) (k : Fin 4) : Chunk F where
  o := fun j => headO m c (headOf k (j 1)) (ix4 0 0 (j 2) (j 3))
  s := fun j =>
    if h : (j 1).val < 2 then headM m c (headOf k ⟨(j 1).val, h⟩) (ix3 0 0 (j 2))
    else headL m c (headOf k ⟨(j 1).val - 2, by have h' : (j 1).val < 4 := (j 1).isLt; omega⟩) (ix3 0 0 (j 2))

/-- The chunk a device holds before round `r`. -/
def stageN : ℕ → Dev nD → Fin 4 → Chunk F
  | 0, c, k => chunk0 m c k
  | r + 1, c, k => mergeC (stageN r c k) (stageN r (if h : r < 3 then peer ⟨r, h⟩ c else c) k)
def stage (r : Fin 3) (c : Dev nD) (k : Fin 4) : Chunk F := stageN m r.val c k

/-- The rows of the output projection that head `h` multiplies. -/
def woRows (c : Dev nD) (h : Fin 8) : Vec F S128x1024 .f32 := fun y =>
  (m ((c : Thread nD τ).loc main_arg2) : Vec F S1024x1024 .f32) ((rWo h).emb y)

/-- Chunk `k`'s contribution to the output, -/
def projOf (c : Dev nD) (k : Fin 4) : FVec F S256x1024 .f32 :=
  (pairOf (stage m 2 c k) (stage m 2 (peer 2 c) k)).proj (woRows m c (headOf k 0)) (woRows m c (headOf k 1))

/-- and the output. -/
def outOf (c : Dev nD) : FVec F S256x1024 .f32 :=
  addf (addf (projOf m c 0) (projOf m c 1)) (addf (projOf m c 2) (projOf m c 3))

theorem stage_zero (c : Dev nD) (k : Fin 4) : stage m 0 c k = chunk0 m c k := rfl
theorem stage_one (c : Dev nD) (k : Fin 4) : stage m 1 c k = mergeC (stage m 0 c k) (stage m 0 (peer 0 c) k) := rfl
theorem stage_two (c : Dev nD) (k : Fin 4) : stage m 2 c k = mergeC (stage m 1 c k) (stage m 1 (peer 1 c) k) := rfl

end Cert.TreeProof

end
-- ==== Proof.Protocol.lean ====
/-
# The exchange protocol

Three rounds; in round `r` a device exchanges its four chunks with the device whose number differs in bit `r`.

* The barrier semaphore of device `c`: waited for by `c` (three units), signalled once by each of its three partners.
  The partner of round `r` hands over its landing slots of round `r` (row `2r + 1` of both exchange buffers, four chunks).
* The receive semaphore `(r, k, b)` of device `c`: waited for by `c`, credited by the copy its partner of round `r` sends.
  The copy hands over the landing slot itself, holding the partner's chunk `k` as it stood before round `r`.
* The send semaphore `(r, k, b)` of device `c`: waited for by `c`, credited by its own copy once it has left; the copy hands
  back the half share of the sent slot (the other half stays with `c`, which reads the slot meanwhile).

Levels: the barrier below the receive semaphores, these in the order in which the chunks are sent.
-/
module

public import proofs.«01_k».proof.Proof.Values
public import Idealize.ShloMosaic.Lib.StableHlo.CollectiveRules

@[expose] public section

noncomputable section

namespace Cert.TreeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The semaphores of the exchange, by number -/

/-- Which semaphore of the exchange a DMA semaphore is: receive (`true`) or send, round, chunk, values or statistics. -/
def decode (q : DmaSem sig) : Option (Bool × Fin 3 × Fin 4 × Fin 2) :=
  if 12 ≤ q.val then
    some (decide (36 ≤ q.val), ⟨(q.val - 12) % 24 / 8, by omega⟩, ⟨(q.val - 12) % 8 / 2, by omega⟩, ⟨(q.val - 12) % 2, by omega⟩)
  else none

theorem decode_send (r : Fin 3) (k : Fin 4) (b : Fin 2) : decode (sendSem r k b) = some (false, r, k, b) := by
  revert r k b; decide
theorem decode_recv (r : Fin 3) (k : Fin 4) (b : Fin 2) : decode (recvSem r k b) = some (true, r, k, b) := by
  revert r k b; decide
theorem decode_cp (s : Fin 4) (b : Fin 2) : decode (cpSem s b) = none := by revert s b; decide
theorem decode_wo : decode woSem = none := by decide

/-- A cell of the exchange: the barrier, or a send or receive semaphore. -/
abbrev CI : Type := Option (Bool × Fin 3 × Fin 4 × Fin 2)
abbrev csem : CI → SemLoc sig
  | none => .reg barS
  | some (false, r, k, b) => .dma (sendSem r k b)
  | some (true, r, k, b) => .dma (recvSem r k b)
abbrev kcell (ck : Dev nD × CI) : GSem nD τ sig := ((ck.1 : Thread nD τ), csem ck.2)
abbrev barCell (c : Dev nD) : GSem nD τ sig := ((c : Thread nD τ), .reg barS)
abbrev sendCell (c : Dev nD) (r : Fin 3) (k : Fin 4) (b : Fin 2) : GSem nD τ sig := ((c : Thread nD τ), .dma (sendSem r k b))
abbrev recvCell (c : Dev nD) (r : Fin 3) (k : Fin 4) (b : Fin 2) : GSem nD τ sig := ((c : Thread nD τ), .dma (recvSem r k b))

/-- The credit of a chunk's values and of its statistics. -/
def NC : Fin 2 → ℕ
  | 0 => (oSlotQ 0 0).view.dmaCredit
  | 1 => (sSlotQ 0 0).view.dmaCredit
theorem NC_pos (b : Fin 2) : 0 < NC b := by
  match b with
  | 0 => exact View.dmaCredit_pos _ (by decide)
  | 1 => exact View.dmaCredit_pos _ (by decide)
theorem credit_o (j : Fin 6) (k : Fin 4) : (oSlotQ j k).view.dmaCredit = NC 0 := rfl
theorem credit_s (j : Fin 6) (k : Fin 4) : (sSlotQ j k).view.dmaCredit = NC 1 := rfl

/-! ## What is handed over -/

/-- The half share a copy takes with it, and the half kept. -/
abbrev qSent : PosShare TreeShare := fullShare.right
abbrev qKept : PosShare TreeShare := fullShare.left

/-- Slot `(j, k)` of both exchange buffers at share `q`, holding the chunk `X`. -/
def slots (c : Dev nD) (j : Fin 6) (k : Fin 4) (q : PosShare TreeShare) (X : Chunk F) : sProp 𝕄 :=
  iprop(owns (c : Thread nD τ) (oSlot j k) q X.o ∗ owns (c : Thread nD τ) (sSlot j k) q X.s)
/-- Slot `(j, k)` with any contents. -/
def free (c : Dev nD) (j : Fin 6) (k : Fin 4) : sProp 𝕄 := iprop(∃ X, slots (F := F) c j k fullShare X)

variable (m : (ℓ : Loc nD τ sig) → Buf (Elt F) ℓ)

def barPay (c : Dev nD) (d : Fin 3) : sProp 𝕄 := bigSep Finset.univ fun k : Fin 4 => free (F := F) (peer d c) (inRow d) k
def sendPay (c : Dev nD) (r : Fin 3) (k : Fin 4) (b : Fin 2) : sProp 𝕄 :=
  match b with
  | 0 => owns (c : Thread nD τ) (oSlot (ownRow r) k) qSent (stage m r c k).o
  | 1 => owns (c : Thread nD τ) (sSlot (ownRow r) k) qSent (stage m r c k).s
def recvPay (c : Dev nD) (r : Fin 3) (k : Fin 4) (b : Fin 2) : sProp 𝕄 :=
  match b with
  | 0 => owns (c : Thread nD τ) (oSlot (inRow r) k) fullShare (stage m r (peer r c) k).o
  | 1 => owns (c : Thread nD τ) (sSlot (inRow r) k) fullShare (stage m r (peer r c) k).s

omit [FloatOps F] [Named F] in
instance free_storable (c : Dev nD) (j : Fin 6) (k : Fin 4) : BI.Storable (upEmb : UEmb _ 𝕄) (free (F := F) c j k) := by
  unfold free slots; infer_instance
omit [FloatOps F] [Named F] in
instance barPay_storable (c : Dev nD) (d : Fin 3) : BI.Storable (upEmb : UEmb _ 𝕄) (barPay (F := F) c d) := by
  unfold barPay; infer_instance
instance sendPay_storable (c : Dev nD) (r : Fin 3) (k : Fin 4) (b : Fin 2) : BI.Storable (upEmb : UEmb _ 𝕄) (sendPay m c r k b) := by
  match b with
  | 0 => unfold sendPay; infer_instance
  | 1 => unfold sendPay; infer_instance
instance recvPay_storable (c : Dev nD) (r : Fin 3) (k : Fin 4) (b : Fin 2) : BI.Storable (upEmb : UEmb _ 𝕄) (recvPay m c r k b) := by
  match b with
  | 0 => unfold recvPay; infer_instance
  | 1 => unfold recvPay; infer_instance

def dutiesD : CI → Finset (Fin 3)
  | none => ∅
  | some _ => {0}
def amountD : CI → ℕ
  | none => 1
  | some (_, _, _, b) => NC b
def payD (c : Dev nD) : CI → sProp 𝕄
  | none => iprop(emp)
  | some (false, r, k, b) => sendPay m c r k b
  | some (true, r, k, b) => recvPay m c r k b
def dutiesOf : SemLoc sig → Finset (Fin 3)
  | .reg _ => Finset.univ
  | .dma q => dutiesD (decode q)
def amountOf : SemLoc sig → ℕ
  | .reg _ => 1
  | .dma q => amountD (decode q)
def payOf (c : Dev nD) (d : Fin 3) : SemLoc sig → sProp 𝕄
  | .reg _ => barPay c d
  | .dma q => payD m c (decode q)

theorem amountOf_pos (s : SemLoc sig) : 0 < amountOf s := by
  rcases s with s | q
  · exact Nat.one_pos
  · show 0 < amountD (decode q)
    rcases decode q with _ | ⟨_, _, _, b⟩
    · exact Nat.one_pos
    · exact NC_pos b

/-- The protocol: one round per cell. -/
def Rd : Rounds.Schedule (GSem nD τ sig) (Fin 3) 𝕄 where
  duties g R := if R = 0 ∧ g.1.2 = .tc then dutiesOf g.2 else ∅
  unitless _ := False
  amount g _ _ := amountOf g.2
  payload g _ d := payOf m g.1.1 d g.2
  amount_pos g _ _ _ := amountOf_pos g.2

instance payD_storable (c : Dev nD) (x : CI) : BI.Storable (upEmb : UEmb _ 𝕄) (payD m c x) := by
  rcases x with _ | ⟨_ | _, r, k, b⟩
  · unfold payD; infer_instance
  · exact sendPay_storable m c r k b
  · exact recvPay_storable m c r k b
instance payOf_storable (c : Dev nD) (d : Fin 3) (s : SemLoc sig) : BI.Storable (upEmb : UEmb _ 𝕄) (payOf m c d s) := by
  rcases s with s | q
  · exact barPay_storable c d
  · exact payD_storable m c (decode q)
instance Rd_payload_storable (g : GSem nD τ sig) (r : ℕ) (d : Fin 3) :
    BI.Storable (upEmb : UEmb _ 𝕄) ((Rd m).payload g r d) := payOf_storable m g.1.1 d g.2

section Sched
variable (c : Dev nD) (r : Fin 3) (k : Fin 4) (b : Fin 2)

theorem duties_bar : (Rd m).duties (barCell c) 0 = Finset.univ := by
  show (if (0 : ℕ) = 0 ∧ (barCell c).1.2 = .tc then Finset.univ else ∅) = _
  rw [if_pos ⟨rfl, rfl⟩]
theorem duties_send : (Rd m).duties (sendCell c r k b) 0 = {0} := by
  show (if (0 : ℕ) = 0 ∧ (sendCell c r k b).1.2 = .tc then dutiesD (decode (sendSem r k b)) else ∅) = _
  rw [if_pos ⟨rfl, rfl⟩, decode_send]; rfl
theorem duties_recv : (Rd m).duties (recvCell c r k b) 0 = {0} := by
  show (if (0 : ℕ) = 0 ∧ (recvCell c r k b).1.2 = .tc then dutiesD (decode (recvSem r k b)) else ∅) = _
  rw [if_pos ⟨rfl, rfl⟩, decode_recv]; rfl
theorem duties_later (g : GSem nD τ sig) : ∀ R, 1 ≤ R → (Rd m).duties g R = ∅ :=
  fun R hR => if_neg fun h => by omega

theorem amount_bar (d : Fin 3) : (Rd m).amount (barCell c) 0 d = 1 := rfl
theorem amount_send (d : Fin 3) : (Rd m).amount (sendCell c r k b) 0 d = NC b := by
  show amountD (decode (sendSem r k b)) = _
  rw [decode_send]; rfl
theorem amount_recv (d : Fin 3) : (Rd m).amount (recvCell c r k b) 0 d = NC b := by
  show amountD (decode (recvSem r k b)) = _
  rw [decode_recv]; rfl

theorem expect_bar : (Rd m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (Rd m).expect (sendCell c r k b) 0 = NC b := by
  unfold Schedule.expect Schedule.amountOf; rw [duties_send, Finset.sum_singleton, amount_send]
theorem expect_recv : (Rd m).expect (recvCell c r k b) 0 = NC b := by
  unfold Schedule.expect Schedule.amountOf; rw [duties_recv, Finset.sum_singleton, amount_recv]

theorem payload_bar (d : Fin 3) : (Rd m).payload (barCell c) 0 d = barPay c d := rfl
theorem payload_send (d : Fin 3) : (Rd m).payload (sendCell c r k b) 0 d = sendPay m c r k b := by
  show payD m c (decode (sendSem r k b)) = _
  rw [decode_send]; rfl
theorem payload_recv (d : Fin 3) : (Rd m).payload (recvCell c r k b) 0 d = recvPay m c r k b := by
  show payD m c (decode (recvSem r k b)) = _
  rw [decode_recv]; rfl

theorem rest_bar : bigSep ((Rd m).duties (barCell c) 0 \ ∅) (fun d => (Rd m).payload (barCell c) 0 d)
    = bigSep Finset.univ fun d : Fin 3 => barPay (F := F) c d := by
  rw [Finset.sdiff_empty, duties_bar]; rfl
theorem rest_send : bigSep ((Rd m).duties (sendCell c r k b) 0 \ ∅) (fun d => (Rd m).payload (sendCell c r k b) 0 d) = sendPay m c r k b := by
  rw [Finset.sdiff_empty, duties_send, bigSep_singleton, payload_send]
theorem rest_recv : bigSep ((Rd m).duties (recvCell c r k b) 0 \ ∅) (fun d => (Rd m).payload (recvCell c r k b) 0 d) = recvPay m c r k b := by
  rw [Finset.sdiff_empty, duties_recv, bigSep_singleton, payload_recv]

end Sched

/-! ## What a device owes; levels -/

/-- The place of chunk `k` of round `r` in the order of sending. -/
def sendIdx (p : Fin 3 × Fin 4) : ℕ :=
  match p.1, p.2 with
  | 0, 0 => 0 | 0, 1 => 1 | 1, 0 => 2 | 0, 2 => 3 | 1, 1 => 4 | 0, 3 => 5
  | 2, 0 => 6 | 1, 2 => 7 | 2, 1 => 8 | 1, 3 => 9 | 2, 2 => 10 | 2, 3 => 11
/-- The chunks in the order in which they are sent. -/
def sendOrder : List (Fin 3 × Fin 4) :=
  [(0, 0), (0, 1), (1, 0), (0, 2), (1, 1), (0, 3), (2, 0), (1, 2), (2, 1), (1, 3), (2, 2), (2, 3)]

/-- What a device owes its partners' receive semaphores while the chunks `l` are still to be sent. -/
def dueL (c : Dev nD) : List (Fin 3 × Fin 4) → CellTallies nD τ sig Unit
  | [] => 0
  | (r, k) :: l => dueL c l + tallyAt (recvCell (peer r c) r k 1) () (NC 1) + tallyAt (recvCell (peer r c) r k 0) () (NC 0)

/-- What a device owes at launch: that and one unit to each partner's barrier. -/
def O₂ (c : Dev nD) : CellTallies nD τ sig Unit := dueL c sendOrder + tallyAt (barCell (peer 2 c)) () 1
def O₁ (c : Dev nD) : CellTallies nD τ sig Unit := O₂ c + tallyAt (barCell (peer 1 c)) () 1
def O₀ (c : Dev nD) : CellTallies nD τ sig Unit := O₁ c + tallyAt (barCell (peer 0 c)) () 1

def L (g : GSem nD τ sig) : Finset Unit := if g.1.2 = .tc then {()} else ∅
def lvD : CI → ℕ
  | some (true, r, k, _) => 2 + sendIdx (r, k)
  | _ => 0
/-- The level of a semaphore. -/
def lvS : SemLoc sig → ℕ
  | .reg _ => 1
  | .dma q => lvD (decode q)
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lvS_recv (r : Fin 3) (k : Fin 4) (b : Fin 2) : lvS (.dma (recvSem r k b)) = 2 + sendIdx (r, k) := by
  show lvD (decode (recvSem r k b)) = _
  rw [decode_recv]; rfl
theorem lvS_send (r : Fin 3) (k : Fin 4) (b : Fin 2) : lvS (.dma (sendSem r k b)) = 0 := by
  show lvD (decode (sendSem r k b)) = _
  rw [decode_send]; rfl
theorem lvS_none (q : DmaSem sig) (h : decode q = none) : lvS (.dma q) = 0 := by
  show lvD (decode q) = _
  rw [h]; rfl

theorem tally_pos {g g' : GSem nD τ sig} {u : Unit} {n : ℕ} (h : 0 < (tallyAt g () n : CellTallies nD τ sig Unit) g' u) : g' = g := by
  rw [tallyAt_apply] at h
  by_contra hn
  rw [if_neg (fun h' => hn h'.1)] at h
  exact Nat.lt_irrefl 0 h

theorem add_pos_cases {A B : CellTallies nD τ sig Unit} {g : GSem nD τ sig} {u : Unit} (h : 0 < (A + B) g u) :
    0 < A g u ∨ 0 < B g u := by
  rw [Pi.add_apply, Finsupp.add_apply] at h
  omega

theorem dueL_pos {c : Dev nD} {l : List (Fin 3 × Fin 4)} {g : GSem nD τ sig} {u : Unit} (h : 0 < dueL c l g u) :
    ∃ p ∈ l, ∃ b, g = recvCell (peer p.1 c) p.1 p.2 b := by
  induction l with
  | nil => exact absurd h (Nat.lt_irrefl 0)
  | cons p l ih =>
    obtain ⟨r, k⟩ := p
    rcases add_pos_cases h with h | h
    · rcases add_pos_cases h with h | h
      · obtain ⟨p, hp, b, e⟩ := ih h
        exact ⟨p, List.mem_cons_of_mem _ hp, b, e⟩
      · exact ⟨(r, k), List.mem_cons_self .., 1, tally_pos h⟩
    · exact ⟨(r, k), List.mem_cons_self .., 0, tally_pos h⟩

theorem O₀_pos {c : Dev nD} {g : GSem nD τ sig} {u : Unit} (h : 0 < O₀ c g u) :
    (∃ p ∈ sendOrder, ∃ b, g = recvCell (peer p.1 c) p.1 p.2 b) ∨ ∃ r, g = barCell (peer r c) := by
  rcases add_pos_cases h with h | h
  · rcases add_pos_cases h with h | h
    · rcases add_pos_cases h with h | h
      · exact .inl (dueL_pos h)
      · exact .inr ⟨2, tally_pos h⟩
    · exact .inr ⟨1, tally_pos h⟩
  · exact .inr ⟨0, tally_pos h⟩

omit [FloatOps F] [Named F] in
/-- A device may wait on a semaphore below every chunk it still has to send. -/
theorem mayWait_due (c : Dev nD) (sm : SemLoc sig) (l : List (Fin 3 × Fin 4)) (h : ∀ p ∈ l, lvS sm < 2 + sendIdx p) :
    (levAts L lv : sProp 𝕄) ⊢ MayWait (c : Thread nD τ) sm () (dueL c l) :=
  MayOwe.of_cut (L := L) (lev := lv) (lvS sm) (fun p hp => by rw [Finset.mem_singleton.mp hp, L_tc]; exact Finset.mem_singleton_self _)
    (fun g u hg => by obtain ⟨p, -, b, rfl⟩ := dueL_pos hg; exact Finset.mem_singleton_self _)
    (fun p hp => by rw [Finset.mem_singleton.mp hp]; exact le_refl _)
    (fun g u hg => by
      obtain ⟨p, hp, b, rfl⟩ := dueL_pos hg
      show lvS sm < lvS (.dma (recvSem p.1 p.2 b))
      rw [lvS_recv]; exact h p hp)

omit [FloatOps F] [Named F] in
/-- A staging wait comes before everything. -/
theorem mayWait_stage (c : Dev nD) (q : DmaSem sig) (hq : decode q = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨p, -, b, rfl⟩ | ⟨r, rfl⟩ <;> exact Finset.mem_singleton_self _)
      (fun p hp => by rw [Finset.mem_singleton.mp hp]; show lvS (.dma q) ≤ 0; rw [lvS_none q hq])
      (fun g u hg => by
        rcases O₀_pos hg with ⟨p, -, b, rfl⟩ | ⟨r, rfl⟩
        · show 0 < lvS (.dma (recvSem p.1 p.2 b)); rw [lvS_recv]; omega
        · exact Nat.one_pos)
  · rw [MayWait_zero]; iintro -; iempintro

end Cert.TreeProof

end
-- ==== Proof.Rules.lean ====
/-
# The rules of one operation of the exchange

One lemma for each kind of operation, at any slot: send a slot to a partner, wait on a send or receive semaphore and
take its counter back, start and wait for a copy of one's own, signal and wait on the barrier.
-/
module

public import proofs.«01_k».proof.Proof.Protocol

@[expose] public section

noncomputable section

namespace Cert.TreeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- The counters of a device's own copies. -/
abbrev EC : UEmb Counters (MT nD τ sig Unit (Elt F) ℕ UU ℕ) := countersEmb

variable (m : (ℓ : Loc nD τ sig) → Buf (Elt F) ℓ) (K : Dev nD × CI → ℕ)

/-- What every device knows: the invariants of all cells, that each has reached round 0, and the levels. -/
def ctx : sProp 𝕄 :=
  iprop(((bigSep Finset.univ fun ck : Dev nD × CI => cellInv ER (Rd m) (K ck) (kcell ck))
    ∗ bigSep Finset.univ fun ck : Dev nD × CI => reached ER (kcell ck) 0) ∗ levAts L lv)
instance ctx_persistent : BI.Persistent (ctx m K) := by unfold ctx; infer_instance

theorem ctx_inv (ck : Dev nD × CI) : ctx m K ⊢ cellInv ER (Rd m) (K ck) (kcell ck) := by
  unfold ctx; iintro ⟨⟨H, -⟩, -⟩
  iapply (show (bigSep Finset.univ fun ck : Dev nD × CI => (cellInv ER (Rd m) (K ck) (kcell ck) : sProp 𝕄))
    ⊢ cellInv ER (Rd m) (K ck) (kcell ck) from bigSep_elim (Finset.mem_univ ck)); iexact H
theorem ctx_reached (ck : Dev nD × CI) : ctx m K ⊢ (reached ER (kcell ck) 0 : sProp 𝕄) := by
  unfold ctx; iintro ⟨⟨-, H⟩, -⟩
  iapply (show (bigSep Finset.univ fun ck : Dev nD × CI => (reached ER (kcell ck) 0 : sProp 𝕄))
    ⊢ reached ER (kcell ck) 0 from bigSep_elim (Finset.mem_univ ck)); iexact H
theorem ctx_lev : ctx m K ⊢ (levAts L lv : sProp 𝕄) := by
  unfold ctx; iintro ⟨-, H⟩; iexact H

/-- Device `c` owing `O`, whatever it has waited for. -/
def owesX (c : Dev nD) (O : CellTallies nD τ sig Unit) : sProp 𝕄 := iprop(∃ W, owes (c : Thread nD τ) O W)

/-! ## Sending a slot -/

/-- A slot sent: the share `q` of it goes to the send semaphore's round, the partner's slot holding the same to the receive
    semaphore's. -/
theorem wp_send_slot (c n : Dev nD) {sh s' : Shape} {e : EltTy} (a b : Memref sig .tc .vmem sh e) (hsq : sh.Squeezes s')
    (sS sR : DmaSem sig) {κ₁ κ₂ N : ℕ} {q : PosShare TreeShare} {X Y : sh.Idx → Elt F e} {O : CellTallies nD τ sig Unit}
    (hd₁ : (Rd m).duties ((c : Thread nD τ), .dma sS) 0 = {0}) (hd₂ : (Rd m).duties ((n : Thread nD τ), .dma sR) 0 = {0})
    (hN : (b.squeeze s' hsq).view.dmaCredit = N)
    (hk₁ : (Rd m).amount ((c : Thread nD τ), .dma sS) 0 0 = N) (hk₂ : (Rd m).amount ((n : Thread nD τ), .dma sR) 0 0 = N)
    (hp₁ : owns (c : Thread nD τ) a q X ⊢ (Rd m).payload ((c : Thread nD τ), .dma sS) 0 0)
    (hp₂ : owns (n : Thread nD τ) b fullShare X ⊢ (Rd m).payload ((n : Thread nD τ), .dma sR) 0 0)
    {hsc : (b.squeeze s' hsq : Memref sig (Dev.tc n : Thread nD τ).2.kind .vmem s' e).view.ref.isScScratch = false}
    {hsrc : (a.squeeze s' hsq).view.WordExact} {hdst : (b.squeeze s' hsq).view.WordExact}
    {hsem : DmaTarget.Typed .vmem (.dma sR)
      (.remote (Dev.tc n : Thread nD τ) (b.squeeze s' hsq : Memref sig (Dev.tc n : Thread nD τ).2.kind .vmem s' e) (.dma sS) hsc)}
    {α : Type} {k : PUnit → KP F α} {Q : α → sProp 𝕄} :
    iprop(cellInv ER (Rd m) κ₁ ((c : Thread nD τ), .dma sS) ∗ reached ER ((c : Thread nD τ), .dma sS) 0
        ∗ cellInv ER (Rd m) κ₂ ((n : Thread nD τ), .dma sR) ∗ reached ER ((n : Thread nD τ), .dma sR) 0
        ∗ owns (c : Thread nD τ) a q X ∗ owns (n : Thread nD τ) b fullShare Y
        ∗ owesX (F := F) c (O + tallyAt ((n : Thread nD τ), .dma sR) () N)
        ∗ dutyTok ER ((c : Thread nD τ), .dma sS) 0 0 ∗ dutyTok ER ((n : Thread nD τ), .dma sR) 0 0)
      ⊢ iprop(((cred (tallyAt ((c : Thread nD τ), .dma sS) () N) ∗ owesX (F := F) c O) -∗ wpK c (k ⟨⟩) Q)
          -∗ wpK c (.op (.enqueueDma (a.squeeze s' hsq) (.remote (Dev.tc n : Thread nD τ) (b.squeeze s' hsq) (.dma sS) hsc) (.dma sR)
            hsrc hdst hsem) k) Q) := by
  unfold owesX
  iintro ⟨#HI1, #HR1, #HI2, #HR2, Ha, Hb, ⟨%W, HO⟩, Ht1, Ht2⟩ Hk
  ihave Ha' := (show owns (c : Thread nD τ) a q X
      ⊢ (iprop(∃ f, ⌜a.view.read (Elt F) f = X⌝ ∗ (a.view.loc (c : Thread nD τ) ↦[a.view.set]{q} f)) : sProp 𝕄)
      from BI.Entails.refl _) $$ Ha
  icases Ha' with ⟨%fa, %hfa, Ha⟩
  ihave Hb' := (show owns (n : Thread nD τ) b fullShare Y
      ⊢ (iprop(∃ f, ⌜b.view.read (Elt F) f = Y⌝ ∗ (b.view.loc (n : Thread nD τ) ↦[b.view.set]{fullShare} f)) : sProp 𝕄)
      from BI.Entails.refl _) $$ Hb
  icases Hb' with ⟨%fb, %hfb, Hb⟩
  iapply (Rounds.wp_send_pointsTo 𝒱₀ ER (Rd m) (c : Thread nD τ) none (κ₁ := κ₁) (κ₂ := κ₂)
    (src := a.squeeze s' hsq) (dst := b.squeeze s' hsq) (sS := .dma sS) (sem := .dma sR) (c' := (Dev.tc n : Thread nD τ)) (q := q) (fs := fa)
    (r₁ := 0) (r₂ := 0) (d₁ := 0) (d₂ := 0) (fd := fb)
    (by rw [hd₁]; exact Finset.mem_singleton_self _) (by rw [hd₂]; exact Finset.mem_singleton_self _)
    () () N hN hk₁ hk₂ O rfl (W := W)
    ((show (((a.squeeze s' hsq).view.loc (c : Thread nD τ)) ↦[(a.squeeze s' hsq).view.set]{q} fa)
        ⊢ (owns (c : Thread nD τ) a q X : sProp 𝕄) by
      rw [View.set_reshape]
      unfold owns
      iintro H; iexists fa
      isplitr; · ipureintro; exact hfa
      iexact H).trans hp₁)
    ((show (((b.squeeze s' hsq).view.loc (n : Thread nD τ)) ↦[(b.squeeze s' hsq).view.set]{fullShare}
          ((b.squeeze s' hsq).view.write (Elt F) fb ((a.squeeze s' hsq).view.read (Elt F) fa) Finset.univ))
        ⊢ (owns (n : Thread nD τ) b fullShare X : sProp 𝕄) by
      rw [View.set_reshape]
      unfold owns
      iintro H; iexists _
      isplitr; · ipureintro; exact (read_copied a b hsq fa fb).trans hfa
      iexact H).trans hp₂)) $$ [Ha Hb HO Ht1 Ht2]
  · isplitr; · iexact HI1
    isplitr; · iexact HI2
    isplitl [Ha]; · rw [View.set_reshape]; iexact Ha
    isplitl [Hb]; · rw [View.set_reshape]; iexact Hb
    isplitl [HO]; · iexact HO
    isplitl [Ht1]; · iexact Ht1
    isplitr; · iexact HR1
    isplitl [Ht2]; · iexact Ht2
    iexact HR2
  iintro ⟨Hc, HO⟩
  iapply Hk
  isplitl [Hc]; · iexact Hc
  iexists W; iexact HO

/-! ## Waiting on a semaphore of the exchange -/

/-- A cell's one round awaited: what the round hands over, and the counter at zero. -/
theorem wp_wait_cell (c : Dev nD) {q : DmaSem sig} {κ N : ℕ} {P : sProp 𝕄}
    (hexp : (Rd m).expect ((c : Thread nD τ), .dma q) 0 = N)
    (hrest : bigSep ((Rd m).duties ((c : Thread nD τ), .dma q) 0 \ ∅) (fun d => (Rd m).payload ((c : Thread nD τ), .dma q) 0 d) = P)
    (l : List (Fin 3 × Fin 4)) (hl : ∀ p ∈ l, lvS (.dma q) < 2 + sendIdx p)
    {s s' : Shape} {e e' : EltTy} {sp sp' : Space} {srcw : Memref sig .tc sp' s' e'} {dstw : Memref sig .tc sp s e}
    {hsrc : srcw.view.WordExact} {hdst : dstw.view.WordExact} (hN : dstw.view.dmaCredit = N)
    {α : Type} {k : PUnit → KP F α} {Q : α → sProp 𝕄} :
    iprop(cellInv ER (Rd m) κ ((c : Thread nD τ), .dma q) ∗ levAts L lv ∗ cred (tallyAt ((c : Thread nD τ), .dma q) () N)
        ∗ atPos ER ((c : Thread nD τ), .dma q) 0 ∅ 0 ∗ owesX (F := F) c (dueL c l))
      ⊢ iprop(((P ∗ semVal ((c : Thread nD τ), .dma q) 0 ∗ owesX (F := F) c (dueL c l)) -∗ wpK c (k ⟨⟩) Q)
          -∗ wpK c (.op (.waitDma2 q srcw dstw hsrc hdst) k) Q) := by
  unfold owesX
  subst hN
  iintro ⟨#HI, #Hlev, Hc, Hat, ⟨%W, HO⟩⟩ Hk
  iapply (Rounds.wp_wait_rest_token 𝒱₀ ER (Rd m) (c : Thread nD τ) none (κ := κ)
      (wpE_waitDma2_eq 𝒱₀ (c : Thread nD τ) none Set.univ) (Set.mem_univ _) () (O := dueL c l) (W := W) (R := 0) (m := 0) (T := ∅)
      (by rw [Nat.zero_add, hexp])) $$ [Hc HO Hat]
  · isplitr; · iexact HI
    isplitl [Hc]; · iexact Hc
    isplitl [HO]; · iexact HO
    isplitr; · iapply (mayWait_due c _ l hl); iexact Hlev
    iexact Hat
  iintro ⟨HO, Hat, -, Hpay⟩
  ihave HP := (Entails.of_eq hrest) $$ Hpay
  imod (Rounds.cell_close ER (Rd m) (Set.mem_univ κ) (fun h => h) (R := 0 + 1) (duties_later m ((c : Thread nD τ), .dma q))) $$ [Hat] with Hz
  · isplitr; · iexact HI
    iexact Hat
  iapply Hk
  isplitl [HP]; · iexact HP
  isplitl [Hz]; · iexact Hz
  iexists _; iexact HO

/-! ## A device's own copies -/

/-- A copy between squeezed slots started. -/
theorem wp_copy_start (c : Dev nD) {sp sp' : Space} {s s₁ s' : Shape} {e : EltTy} (a : Memref sig .tc sp s₁ e) (b : Memref sig .tc sp' s e)
    (h₁ : s₁.Squeezes s') (h : s.Squeezes s') (hc : s'.ShapeCasts s) (q : DmaSem sig) {fa : Buf (Elt F) (a.view.loc (c : Thread nD τ))}
    {X : s.Idx → Elt F e} (hpos : 0 < s'.numel)
    {hsrc : (a.squeeze s' h₁).view.WordExact} {hdst : (b.squeeze s' h).view.WordExact}
    {hsem : DmaTarget.Typed (nD := nD) (τ := τ) (p := .tc) sp (.dma q) (.here (b.squeeze s' h))}
    {α : Type} {k : PUnit → KP F α} {Q : α → sProp 𝕄} :
    iprop((a.view.loc (c : Thread nD τ) ↦[a.view.set]{fullShare} fa) ∗ owns (c : Thread nD τ) b fullShare X ∗ semVal ((c : Thread nD τ), .dma q) 0)
      ⊢ iprop((Transfers.Flight (EC (F := F)) (c : Thread nD τ) (.dma q) () (b.squeeze s' h).view.dmaCredit
            iprop(owns (c : Thread nD τ) b fullShare (shapeCast s ((a.squeeze s' h₁).view.read (Elt F) fa) hc)
              ∗ (a.view.loc (c : Thread nD τ) ↦[a.view.set]{fullShare} fa)) -∗ wpK c (k ⟨⟩) Q)
          -∗ wpK c (.op (.enqueueDma (a.squeeze s' h₁) (.here (b.squeeze s' h)) (.dma q) hsrc hdst hsem) k) Q) := by
  iintro ⟨Ha, Hb, Hv⟩ Hk
  ihave Hb' := (show owns (c : Thread nD τ) b fullShare X
      ⊢ (iprop(∃ f, ⌜b.view.read (Elt F) f = X⌝ ∗ (b.view.loc (c : Thread nD τ) ↦[b.view.set]{fullShare} f)) : sProp 𝕄)
      from BI.Entails.refl _) $$ Hb
  icases Hb' with ⟨%fb, %hfb, Hb⟩
  iapply (Transfers.wp_dmaLocal (EC (F := F)) 𝒱₀ (c : Thread nD τ) none (src := a.squeeze s' h₁) (dst := b.squeeze s' h) (sm := .dma q)
    (q := fullShare) (fs := fa) (fd := fb) (Sd := b.view.set) () (b.squeeze s' h).view.dmaCredit rfl
    (View.dmaCredit_pos _ hpos) (by rw [View.set_reshape])) $$ [Ha Hb Hv]
  · isplitl [Ha]; · rw [View.set_reshape]; iexact Ha
    isplitl [Hb]; · iexact Hb
    iexact Hv
  iintro HF
  iapply Hk
  iapply (Transfers.Flight_mono (EC (F := F)) (c : Thread nD τ) (D' := iprop(owns (c : Thread nD τ) b fullShare (shapeCast s ((a.squeeze s' h₁).view.read (Elt F) fa) hc)
              ∗ (a.view.loc (c : Thread nD τ) ↦[a.view.set]{fullShare} fa))) (by
    rw [View.set_reshape]
    iintro ⟨Hb, Ha⟩
    isplitl [Hb]
    · unfold owns
      iexists _
      isplitr; · ipureintro; exact read_copied_cast a b h₁ h hc fa fb
      iexact Hb
    iexact Ha)) $$ HF

/-- A copy awaited. -/
theorem wp_copy_wait (c : Dev nD) {q : DmaSem sig} {N : ℕ} {D : sProp 𝕄} (hq : decode q = none) (l : List (Fin 3 × Fin 4))
    {s s' : Shape} {e e' : EltTy} {sp sp' : Space} {srcw : Memref sig .tc sp' s' e'} {dstw : Memref sig .tc sp s e}
    {hsrc : srcw.view.WordExact} {hdst : dstw.view.WordExact} (hN : dstw.view.dmaCredit = N)
    {α : Type} {k : PUnit → KP F α} {Q : α → sProp 𝕄} :
    iprop(levAts L lv ∗ Transfers.Flight (EC (F := F)) (c : Thread nD τ) (.dma q) () N D ∗ owesX (F := F) c (dueL c l))
      ⊢ iprop(((D ∗ semVal ((c : Thread nD τ), .dma q) 0 ∗ owesX (F := F) c (dueL c l)) -∗ wpK c (k ⟨⟩) Q)
          -∗ wpK c (.op (.waitDma2 q srcw dstw hsrc hdst) k) Q) := by
  unfold owesX
  iintro ⟨#Hlev, HF, ⟨%W, HO⟩⟩ Hk
  iapply (Transfers.wp_waitLocalO (EC (F := F)) 𝒱₀ (c : Thread nD τ) none () hN (O := dueL c l) (W := W)) $$ [HF HO]
  · isplitl [HF]; · iexact HF
    isplitl [HO]; · iexact HO
    iapply (mayWait_due c _ l (fun p _ => by rw [lvS_none q hq]; omega)); iexact Hlev
  iintro ⟨HD, Hv, HO⟩
  iapply Hk
  isplitl [HD]; · iexact HD
  isplitl [Hv]; · iexact Hv
  iexists _; iexact HO

/-! ## The barrier -/

/-- The landing slots of round `r` handed to the partner of round `r`. -/
theorem wp_handshake (c n : Dev nD) (r : Fin 3) (hn : n = peer r c) {O : CellTallies nD τ sig Unit}
    {α : Type} {k : PUnit → KP F α} {Q : α → sProp 𝕄} :
    iprop(ctx m K ∗ dutyTok ER (barCell (peer r c)) 0 r ∗ (bigSep Finset.univ fun k : Fin 4 => free (F := F) c (inRow r) k)
        ∗ owesX (F := F) c (O + tallyAt (barCell (peer r c)) () 1))
      ⊢ iprop((owesX (F := F) c O -∗ wpK c (k ⟨⟩) Q) -∗ wpK c (semSignalWord n barS 1#32 >>= k) Q) := by
  subst hn
  unfold owesX
  simp only [semSignalWord, semWaitWord, Prog.lift, Prog.bind_op, Prog.bind_ret, Prog.pure_eq_ret]
  iintro ⟨#Hctx, Ht, Hs, ⟨%W, HO⟩⟩ Hk
  ihave #HI := (ctx_inv m K (peer r c, none)) $$ Hctx
  ihave #HR := (ctx_reached m K (peer r c, none)) $$ Hctx
  iapply (Rounds.wp_signal 𝒱₀ ER (Rd m) (c : Thread nD τ) none (dst := (peer r c : Thread nD τ)) (κ := K (peer r c, none))
      (d := r) (by rw [duties_bar]; exact Finset.mem_univ _) ((amount_bar m (peer r c) r).trans (by decide)) () O rfl) $$ [HO Ht Hs]
  · isplitr; · iexact HI
    isplitl [HO]; · iexact HO
    isplitl [Ht]; · iexact Ht
    isplitl [Hs]
    · rw [payload_bar]; unfold barPay; rw [peer_peer]; iexact Hs
    iexact HR
  iintro HO
  iapply Hk
  iexists W; iexact HO

/-- The barrier awaited: every partner's landing slots, and the counter at zero. -/
theorem wp_barrier (c : Dev nD) (l : List (Fin 3 × Fin 4)) {α : Type} {k : PUnit → KP F α} {Q : α → sProp 𝕄} :
    iprop(ctx m K ∗ cred (tallyAt (barCell c) () 3) ∗ atPos ER (barCell c) 0 ∅ 0 ∗ owesX (F := F) c (dueL c l))
      ⊢ iprop((((bigSep Finset.univ fun d : Fin 3 => barPay (F := F) c d) ∗ semVal (barCell c) 0 ∗ owesX (F := F) c (dueL c l)) -∗ wpK c (k ⟨⟩) Q)
          -∗ wpK c (semWaitWord barS 3#32 >>= k) Q) := by
  unfold owesX
  simp only [semSignalWord, semWaitWord, Prog.lift, Prog.bind_op, Prog.bind_ret, Prog.pure_eq_ret]
  iintro ⟨#Hctx, Hc, Hat, ⟨%W, HO⟩⟩ Hk
  ihave #HI := (ctx_inv m K (c, none)) $$ Hctx
  iapply (Rounds.wp_wait_rest_token 𝒱₀ ER (Rd m) (c : Thread nD τ) none (κ := K (c, none))
      (wpE_semWait_eq 𝒱₀ (c : Thread nD τ) none Set.univ) (Set.mem_univ _) () (O := dueL c l) (W := W) (R := 0) (m := 0) (T := ∅)
      (by rw [expect_bar]; decide)) $$ [Hc HO Hat]
  · isplitr; · iexact HI
    isplitl [Hc]; · iexact Hc
    isplitl [HO]; · iexact HO
    isplitr
    · iapply (mayWait_due c (.reg barS) l (fun p _ => by show 1 < _; omega))
      iapply (ctx_lev m K); iexact Hctx
    iexact Hat
  iintro ⟨HO, Hat, -, Hpay⟩
  ihave HP := (Entails.of_eq (rest_bar m c)) $$ Hpay
  imod (Rounds.cell_close ER (Rd m) (Set.mem_univ (K (c, none))) (fun h => h) (R := 0 + 1) (duties_later m (barCell c))) $$ [Hat] with Hz
  · isplitr; · iexact HI
    iexact Hat
  iapply Hk
  isplitl [HP]; · iexact HP
  isplitl [Hz]; · iexact Hz
  iexists _; iexact HO

end Cert.TreeProof

end
-- ==== Proof.Steps.lean ====
/-
# The rules of the body's steps

One lemma for each step of the body, at a symbolic head, round and chunk: what it takes and what it leaves.
-/
module

public import proofs.«01_k».proof.Proof.Rules

@[expose] public section

noncomputable section

namespace Cert.TreeProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × CI → ℕ)

/-! ## The bundles the steps take and leave -/

abbrev kSl (s : Fin 4) : Memref sig .tc .vmem S1x4096x128 .f32 := kbuf.slice (rKV s) (fun _ => rfl)
abbrev vSl (s : Fin 4) : Memref sig .tc .vmem S1x4096x128 .f32 := vbuf.slice (rKV s) (fun _ => rfl)
abbrev kHd (h : Fin 8) : Memref sig .tc .hbm S4096x1x128 .f32 := kHbm.slice (rArr h) (fun _ => rfl)
abbrev vHd (h : Fin 8) : Memref sig .tc .hbm S4096x1x128 .f32 := vHbm.slice (rArr h) (fun _ => rfl)

/-- Head `h` of the device's keys and values. -/
def kvSrc (c : Dev nD) (h : Fin 8) : sProp 𝕄 :=
  iprop(((kHd h).view.loc (c : Thread nD τ) ↦[(kHd h).view.set]{fullShare} m ((c : Thread nD τ).loc main_arg3))
    ∗ ((vHd h).view.loc (c : Thread nD τ) ↦[(vHd h).view.set]{fullShare} m ((c : Thread nD τ).loc main_arg4)))
/-- Buffer slot `s`, free. -/
def kvFree (c : Dev nD) (s : Fin 4) : sProp 𝕄 :=
  iprop((∃ X, owns (c : Thread nD τ) (kSl s) fullShare X) ∗ (∃ X, owns (c : Thread nD τ) (vSl s) fullShare X)
    ∗ semVal ((c : Thread nD τ), .dma (cpSem s 0)) 0 ∗ semVal ((c : Thread nD τ), .dma (cpSem s 1)) 0)
/-- Head `h` on its way into slot `s`. -/
def kvFly (c : Dev nD) (h : Fin 8) (s : Fin 4) : sProp 𝕄 :=
  iprop(Transfers.Flight (EC (F := F)) (c : Thread nD τ) (.dma (cpSem s 0)) () (kvSlot kbuf s).view.dmaCredit
      iprop(owns (c : Thread nD τ) (kSl s) fullShare (kSlab m c h)
        ∗ ((kHd h).view.loc (c : Thread nD τ) ↦[(kHd h).view.set]{fullShare} m ((c : Thread nD τ).loc main_arg3)))
    ∗ Transfers.Flight (EC (F := F)) (c : Thread nD τ) (.dma (cpSem s 1)) () (kvSlot vbuf s).view.dmaCredit
      iprop(owns (c : Thread nD τ) (vSl s) fullShare (vSlab m c h)
        ∗ ((vHd h).view.loc (c : Thread nD τ) ↦[(vHd h).view.set]{fullShare} m ((c : Thread nD τ).loc main_arg4))))
/-- Head `h` in slot `s`. -/
def kvHeld (c : Dev nD) (h : Fin 8) (s : Fin 4) : sProp 𝕄 :=
  iprop(owns (c : Thread nD τ) (kSl s) fullShare (kSlab m c h) ∗ owns (c : Thread nD τ) (vSl s) fullShare (vSlab m c h)
    ∗ kvSrc m c h ∗ semVal ((c : Thread nD τ), .dma (cpSem s 0)) 0 ∗ semVal ((c : Thread nD τ), .dma (cpSem s 1)) 0)

/-- What the sending of a chunk takes besides the slots. -/
def sendRes (c : Dev nD) (r : Fin 3) (k : Fin 4) : sProp 𝕄 :=
  iprop(atPos ER (sendCell c r k 0) 0 ∅ 0 ∗ atPos ER (sendCell c r k 1) 0 ∅ 0
    ∗ dutyTok ER (sendCell c r k 0) 0 0 ∗ dutyTok ER (sendCell c r k 1) 0 0
    ∗ dutyTok ER (recvCell (peer r c) r k 0) 0 0 ∗ dutyTok ER (recvCell (peer r c) r k 1) 0 0)
/-- What the receipt of a chunk takes. -/
def recvRes (c : Dev nD) (r : Fin 3) (k : Fin 4) : sProp 𝕄 :=
  iprop(atPos ER (recvCell c r k 0) 0 ∅ 0 ∗ atPos ER (recvCell c r k 1) 0 ∅ 0
    ∗ cred (tallyAt (recvCell c r k 0) () (NC 0)) ∗ cred (tallyAt (recvCell c r k 1) () (NC 1)))
/-- A chunk sent: half of its slot is kept. -/
def sent (c : Dev nD) (r : Fin 3) (k : Fin 4) : sProp 𝕄 :=
  iprop(slots c (ownRow r) k qKept (stage m r c k)
    ∗ atPos ER (sendCell c r k 0) 0 ∅ 0 ∗ atPos ER (sendCell c r k 1) 0 ∅ 0
    ∗ cred (tallyAt (sendCell c r k 0) () (NC 0)) ∗ cred (tallyAt (sendCell c r k 1) () (NC 1)))
/-- A chunk sent and gone. -/
def gone (c : Dev nD) (r : Fin 3) (k : Fin 4) : sProp 𝕄 :=
  iprop(slots c (ownRow r) k fullShare (stage m r c k) ∗ semVal (sendCell c r k 0) 0 ∗ semVal (sendCell c r k 1) 0)
/-- A chunk received. -/
def got (c : Dev nD) (r : Fin 3) (k : Fin 4) : sProp 𝕄 :=
  iprop(slots c (inRow r) k fullShare (stage m r (peer r c) k) ∗ semVal (recvCell c r k 0) 0 ∗ semVal (recvCell c r k 1) 0)

/-! ## A device's own copies -/

theorem step_headStart (c : Dev nD) (h : Fin 8) (s : Fin 4) {α : Type} {k : PUnit → KP F α} {Q : α → sProp 𝕄} :
    iprop(kvSrc m c h ∗ kvFree c s) ⊢ iprop((kvFly m c h s -∗ wpK c (k ⟨⟩) Q) -∗ wpK c (headStart h s >>= k) Q) := by
  unfold headStart kvSrc kvFree kvFly
  simp only [Prog.lift, Prog.bind_op, Prog.bind_ret, Prog.pure_eq_ret]
  iintro ⟨⟨Hk, Hv⟩, ⟨%X, Hks⟩, ⟨%Y, Hvs⟩, Hz0, Hz1⟩ Hcont
  iapply (wp_copy_start c (kHd h) (kSl s) squeezes_S4096x1x128_S4096x128 squeezes_S1x4096x128_S4096x128 (by decide) (cpSem s 0) (by decide))
    $$ [Hk Hks Hz0]
  · isplitl [Hk]; · iexact Hk
    isplitl [Hks]; · iexact Hks
    iexact Hz0
  iintro HF0
  iapply (wp_copy_start c (vHd h) (vSl s) squeezes_S4096x1x128_S4096x128 squeezes_S1x4096x128_S4096x128 (by decide) (cpSem s 1) (by decide))
    $$ [Hv Hvs Hz1]
  · isplitl [Hv]; · iexact Hv
    isplitl [Hvs]; · iexact Hvs
    iexact Hz1
  iintro HF1
  iapply Hcont
  isplitl [HF0]; · iexact HF0
  iexact HF1

theorem step_headWait (c : Dev nD) (h : Fin 8) (s : Fin 4) (l : List (Fin 3 × Fin 4)) {α : Type} {k : PUnit → KP F α} {Q : α → sProp 𝕄} :
    iprop(ctx m K ∗ kvFly m c h s ∗ owesX (F := F) c (dueL c l))
      ⊢ iprop(((kvHeld m c h s ∗ owesX (F := F) c (dueL c l)) -∗ wpK c (k ⟨⟩) Q) -∗ wpK c (headWait h s >>= k) Q) := by
  unfold headWait kvFly kvHeld kvSrc
  simp only [Prog.lift, Prog.bind_op, Prog.bind_ret, Prog.pure_eq_ret]
  iintro ⟨#Hctx, ⟨HF0, HF1⟩, HO⟩ Hcont
  ihave #Hlev := (ctx_lev m K) $$ Hctx
  iapply (wp_copy_wait c (decode_cp s 0) l rfl) $$ [HF0 HO]
  · isplitr; · iexact Hlev
    isplitl [HF0]; · iexact HF0
    iexact HO
  iintro ⟨⟨Hks, Hk⟩, Hz0, HO⟩
  iapply (wp_copy_wait c (decode_cp s 1) l rfl) $$ [HF1 HO]
  · isplitr; · iexact Hlev
    isplitl [HF1]; · iexact HF1
    iexact HO
  iintro ⟨⟨Hvs, Hv⟩, Hz1, HO⟩
  iapply Hcont
  isplitr [HO]
  · isplitl [Hks]; · iexact Hks
    isplitl [Hvs]; · iexact Hvs
    isplitl [Hk Hv]
    · isplitl [Hk]; · iexact Hk
      iexact Hv
    isplitl [Hz0]; · iexact Hz0
    iexact Hz1
  iexact HO

theorem step_kLoad (c : Dev nD) (h : Fin 8) (s : Fin 4) {α : Type} {k : Vec F S1x4096x128 .f32 → KP F α} {Q : α → sProp 𝕄} :
    kvHeld m c h s ⊢ iprop((kvHeld m c h s -∗ wpK c (k (kSlab m c h)) Q) -∗ wpK c (kvLoad kbuf s >>= k) Q) := by
  unfold kvLoad kvHeld
  simp only [Prog.lift, Prog.bind_op, Prog.bind_ret, Prog.pure_eq_ret]
  iintro ⟨Hks, Hr⟩ Hcont
  iapply (wp_load_part (m := kbuf) (R := rKV s) (R' := rKV s) (fun _ => rfl) id (fun _ => rfl) c) $$ Hks
  iintro Hks
  iapply Hcont
  isplitl [Hks]; · iexact Hks
  iexact Hr

theorem step_vLoad (c : Dev nD) (h : Fin 8) (s : Fin 4) {α : Type} {k : Vec F S1x4096x128 .f32 → KP F α} {Q : α → sProp 𝕄} :
    kvHeld m c h s ⊢ iprop((kvHeld m c h s -∗ wpK c (k (vSlab m c h)) Q) -∗ wpK c (kvLoad vbuf s >>= k) Q) := by
  unfold kvLoad kvHeld
  simp only [Prog.lift, Prog.bind_op, Prog.bind_ret, Prog.pure_eq_ret]
  iintro ⟨Hks, Hvs, Hr⟩ Hcont
  iapply (wp_load_part (m := vbuf) (R := rKV s) (R' := rKV s) (fun _ => rfl) id (fun _ => rfl) c) $$ Hvs
  iintro Hvs
  iapply Hcont
  isplitl [Hks]; · iexact Hks
  isplitl [Hvs]; · iexact Hvs
  iexact Hr

/-- A slot read to the end is free again, and the head's keys and values are back. -/
theorem kvHeld_release (c : Dev nD) (h : Fin 8) (s : Fin 4) : kvHeld m c h s ⊢ iprop(kvSrc m c h ∗ kvFree c s) := by
  unfold kvHeld kvFree
  iintro ⟨Hks, Hvs, Hsrc, Hz0, Hz1⟩
  isplitl [Hsrc]; · iexact Hsrc
  isplitl [Hks]; · iexists _; iexact Hks
  isplitl [Hvs]; · iexists _; iexact Hvs
  isplitl [Hz0]; · iexact Hz0
  iexact Hz1

/-- The output projection in the device's memory, and in its buffer. -/
def woSrc (c : Dev nD) : sProp 𝕄 := (((c : Thread nD τ).loc main_arg2) ↦{fullShare} m ((c : Thread nD τ).loc main_arg2))
def woFree (c : Dev nD) : sProp 𝕄 :=
  iprop((∃ X, owns (c : Thread nD τ) wobuf fullShare X) ∗ semVal ((c : Thread nD τ), .dma woSem) 0)
def woFly (c : Dev nD) : sProp 𝕄 :=
  Transfers.Flight (EC (F := F)) (c : Thread nD τ) (.dma woSem) () wobuf.view.dmaCredit
    iprop(owns (c : Thread nD τ) wobuf fullShare (woHbm.view.read (Elt F) (m ((c : Thread nD τ).loc main_arg2))) ∗ woSrc m c)
def woHeld (c : Dev nD) : sProp 𝕄 :=
  iprop(owns (c : Thread nD τ) wobuf fullShare (woHbm.view.read (Elt F) (m ((c : Thread nD τ).loc main_arg2))) ∗ woSrc m c
    ∗ semVal ((c : Thread nD τ), .dma woSem) 0)

theorem step_woStart (c : Dev nD) {α : Type} {k : PUnit → KP F α} {Q : α → sProp 𝕄} :
    iprop(woSrc m c ∗ woFree c) ⊢ iprop((woFly m c -∗ wpK c (k ⟨⟩) Q) -∗ wpK c (woStart >>= k) Q) := by
  unfold woStart woFree woFly
  simp only [Prog.lift, Prog.bind_op, Prog.bind_ret, Prog.pure_eq_ret]
  iintro ⟨Hs, ⟨%X, Hb⟩, Hz⟩ Hcont
  ihave Hb' := (show owns (c : Thread nD τ) wobuf fullShare X
      ⊢ (iprop(∃ f, ⌜wobuf.view.read (Elt F) f = X⌝ ∗ (wobuf.view.loc (c : Thread nD τ) ↦[wobuf.view.set]{fullShare} f)) : sProp 𝕄)
      from BI.Entails.refl _) $$ Hb
  icases Hb' with ⟨%fb, %hfb, Hb⟩
  iapply (Transfers.wp_dmaLocal (EC (F := F)) 𝒱₀ (c : Thread nD τ) none (src := woHbm) (dst := wobuf) (sm := .dma woSem)
    (q := fullShare) (fs := m ((c : Thread nD τ).loc main_arg2)) (fd := fb) (Sd := wobuf.view.set) () wobuf.view.dmaCredit rfl
    (View.dmaCredit_pos _ (by decide)) subset_rfl) $$ [Hs Hb Hz]
  · isplitl [Hs]
    · unfold woSrc
      rw [show woHbm.view.set = Finset.univ from View.set_whole _]
      iexact Hs
    isplitl [Hb]; · iexact Hb
    iexact Hz
  iintro HF
  iapply Hcont
  iapply (Transfers.Flight_mono (EC (F := F)) (c : Thread nD τ)
    (D' := iprop(owns (c : Thread nD τ) wobuf fullShare (woHbm.view.read (Elt F) (m ((c : Thread nD τ).loc main_arg2))) ∗ woSrc m c)) (by
    iintro ⟨Hb, Ha⟩
    isplitl [Hb]
    · unfold owns
      iexists _
      isplitr; · ipureintro; exact View.read_write_univ (v := wobuf.view) fb _
      iexact Hb
    unfold woSrc
    rw [show woHbm.view.set = Finset.univ from View.set_whole _]
    iexact Ha)) $$ HF

theorem step_woWait (c : Dev nD) (l : List (Fin 3 × Fin 4)) {α : Type} {k : PUnit → KP F α} {Q : α → sProp 𝕄} :
    iprop(ctx m K ∗ woFly m c ∗ owesX (F := F) c (dueL c l))
      ⊢ iprop(((woHeld m c ∗ owesX (F := F) c (dueL c l)) -∗ wpK c (k ⟨⟩) Q) -∗ wpK c (woWait >>= k) Q) := by
  unfold woWait woFly woHeld
  simp only [Prog.lift, Prog.bind_op, Prog.bind_ret, Prog.pure_eq_ret]
  iintro ⟨#Hctx, HF, HO⟩ Hcont
  ihave #Hlev := (ctx_lev m K) $$ Hctx
  iapply (wp_copy_wait c decode_wo l rfl) $$ [HF HO]
  · isplitr; · iexact Hlev
    isplitl [HF]; · iexact HF
    iexact HO
  iintro ⟨⟨Hb, Hs⟩, Hz, HO⟩
  iapply Hcont
  isplitr [HO]
  · isplitl [Hb]; · iexact Hb
    isplitl [Hs]; · iexact Hs
    iexact Hz
  iexact HO

theorem step_woLoad (c : Dev nD) (h : Fin 8) {α : Type} {k : Vec F S128x1024 .f32 → KP F α} {Q : α → sProp 𝕄} :
    woHeld m c ⊢ iprop((woHeld m c -∗ wpK c (k (woRows m c h)) Q) -∗ wpK c (woLoad h >>= k) Q) := by
  unfold woLoad woHeld
  simp only [Prog.lift, Prog.bind_op, Prog.bind_ret, Prog.pure_eq_ret]
  iintro ⟨Hb, Hr⟩ Hcont
  ihave Hb' := (show owns (c : Thread nD τ) wobuf fullShare (woHbm.view.read (Elt F) (m ((c : Thread nD τ).loc main_arg2)))
      ⊢ (iprop(∃ f, ⌜wobuf.view.read (Elt F) f = woHbm.view.read (Elt F) (m ((c : Thread nD τ).loc main_arg2))⌝
        ∗ (wobuf.view.loc (c : Thread nD τ) ↦[wobuf.view.set]{fullShare} f)) : sProp 𝕄)
      from BI.Entails.refl _) $$ Hb
  icases Hb' with ⟨%f, %hf, Hb⟩
  iapply (wp_load_rect 𝒱₀ (c : Thread nD τ) none Set.univ (m := wobuf) (r := rWo h) (View.set_slice_subset _ _)) $$ Hb
  iintro Hb
  rw [show (wobuf.access (rWo h)).read (Elt F) f = woRows m c h from funext fun y => congrFun hf ((rWo h).emb y)]
  iapply Hcont
  isplitl [Hb]
  · unfold owns
    iexists f
    isplitr; · ipureintro; exact hf
    iexact Hb
  iexact Hr

end Cert.TreeProof

end
-- ==== Proof.Exchange.lean ====
/-
# The rules of the exchange's steps

A head's result stored into its chunk; a chunk sent, received, merged, projected, and gone.
-/
module

public import proofs.«01_k».proof.Proof.Steps

@[expose] public section

noncomputable section

namespace Cert.TreeProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × CI → ℕ)

/-! ## Where the parts of a chunk sit -/

theorem rO1_part (h : Fin 8) (k : Fin 4) (i : Fin 2) (hh : h = headOf k i) (y : (rO1 h).shape.Idx) :
    (rO1 h).emb y = (rO (ownRow 0) k).emb (subO i y) := by
  subst hh
  funext a
  apply Fin.ext
  have h0 : (y 0).val < 1 := (y 0).isLt
  have h1 : (y 1).val < 1 := (y 1).isLt
  match a with
  | 0 => show 0 + 1 * (y 0).val = 0 + 1 * 0; omega
  | 1 => show (2 * k.val + i.val) + 1 * (y 1).val = 2 * k.val + 1 * i.val; omega
  | 2 => rfl
  | 3 => rfl

theorem rS1_part (n : Fin 16) (k : Fin 4) (i : Fin 4) (hn : n.val = 4 * k.val + i.val) (y : (rS1 n).shape.Idx) :
    (rS1 n).emb y = (rS (ownRow 0) k).emb (subS i y) := by
  funext a
  apply Fin.ext
  have h0 : (y 0).val < 1 := (y 0).isLt
  have h1 : (y 1).val < 1 := (y 1).isLt
  match a with
  | 0 => show 0 + 1 * (y 0).val = 0 + 1 * 0; omega
  | 1 => show n.val + 1 * (y 1).val = 4 * k.val + 1 * i.val; omega
  | 2 => rfl

theorem rS2_part (j : Fin 6) (k : Fin 4) (b : Fin 2) (y : (rS2 j k b).shape.Idx) :
    (rS2 j k b).emb y = (rS j k).emb (sub2 b y) := by
  funext a
  apply Fin.ext
  have h0 : (y 0).val < 1 := (y 0).isLt
  match a with
  | 0 => show j.val + 1 * (y 0).val = j.val + 1 * 0; omega
  | 1 => show (4 * k.val + 2 * b.val) + 1 * (y 1).val = 4 * k.val + 1 * (2 * b.val + (y 1).val); omega
  | 2 => rfl

/-! ## A head's result stored -/

/-- A chunk's values with head `i`'s stored into them, -/
def ovO (i : Fin 2) (X : Vec F S1x2x128x256 .bf16) (o : Vec F S1x1x128x256 .bf16) : Vec F S1x2x128x256 .bf16 := fun j =>
  if (j 1).val = i.val then o (ix4 0 0 (j 2) (j 3)) else X j
/-- and its statistics with row `n` stored. -/
def ovS (n : Fin 4) (X : Vec F S1x4x256 .f32) (v : Vec F S1x1x256 .f32) : Vec F S1x4x256 .f32 := fun j =>
  if (j 1).val = n.val then v (ix3 0 0 (j 2)) else X j

omit [FloatOps F] [Named F] in
theorem ovO_in (i : Fin 2) (X : Vec F S1x2x128x256 .bf16) (o : Vec F S1x1x128x256 .bf16) (y : S1x1x128x256.Idx) :
    ovO i X o (subO i y) = o y := by
  have h0 : (y 0).val < 1 := (y 0).isLt
  have h1 : (y 1).val < 1 := (y 1).isLt
  refine (if_pos (show ((subO i y) 1).val = i.val from rfl)).trans (congrArg o ?_)
  funext a
  apply Fin.ext
  match a with
  | 0 => show 0 = (y 0).val; omega
  | 1 => show 0 = (y 1).val; omega
  | 2 => rfl
  | 3 => rfl
omit [FloatOps F] [Named F] in
theorem ovO_out (i : Fin 2) (X : Vec F S1x2x128x256 .bf16) (o : Vec F S1x1x128x256 .bf16) (j : S1x2x128x256.Idx)
    (h : ∀ y, subO i y ≠ j) : ovO i X o j = X j := by
  refine if_neg fun e => h (ix4 0 0 (j 2) (j 3)) ?_
  have h0 : (j 0).val < 1 := (j 0).isLt
  funext a
  apply Fin.ext
  match a with
  | 0 => show 0 = (j 0).val; omega
  | 1 => exact e.symm
  | 2 => rfl
  | 3 => rfl
omit [FloatOps F] [Named F] in
theorem ovS_in (n : Fin 4) (X : Vec F S1x4x256 .f32) (v : Vec F S1x1x256 .f32) (y : S1x1x256.Idx) :
    ovS n X v (subS n y) = v y := by
  have h0 : (y 0).val < 1 := (y 0).isLt
  have h1 : (y 1).val < 1 := (y 1).isLt
  refine (if_pos (show ((subS n y) 1).val = n.val from rfl)).trans (congrArg v ?_)
  funext a
  apply Fin.ext
  match a with
  | 0 => show 0 = (y 0).val; omega
  | 1 => show 0 = (y 1).val; omega
  | 2 => rfl
omit [FloatOps F] [Named F] in
theorem ovS_out (n : Fin 4) (X : Vec F S1x4x256 .f32) (v : Vec F S1x1x256 .f32) (j : S1x4x256.Idx)
    (h : ∀ y, subS n y ≠ j) : ovS n X v j = X j := by
  refine if_neg fun e => h (ix3 0 0 (j 2)) ?_
  have h0 : (j 0).val < 1 := (j 0).isLt
  funext a
  apply Fin.ext
  match a with
  | 0 => show 0 = (j 0).val; omega
  | 1 => exact e.symm
  | 2 => rfl

theorem step_headStore (c : Dev nD) (h : Fin 8) (k : Fin 4) (i : Fin 2) (n₁ n₂ : Fin 4) (nm nl : Fin 16)
    (hh : h = headOf k i) (hm : nm.val = 4 * k.val + n₁.val) (hl : nl.val = 4 * k.val + n₂.val)
    (o : Vec F S1x1x128x256 .bf16) (mt lt : Vec F S1x1x256 .f32) (X : Chunk F)
    {α : Type} {kk : PUnit → KP F α} {Q : α → sProp 𝕄} :
    slots c (ownRow 0) k fullShare X
      ⊢ iprop((slots c (ownRow 0) k fullShare ⟨ovO i X.o o, ovS n₂ (ovS n₁ X.s mt) lt⟩ -∗ wpK c (kk ⟨⟩) Q)
        -∗ wpK c (headStore h o mt lt nm nl >>= kk) Q) := by
  unfold headStore slots
  simp only [Prog.lift, Prog.bind_op, Prog.bind_ret, Prog.pure_eq_ret]
  iintro ⟨Ho, Hs⟩ Hcont
  iapply (wp_load_part (m := outc) (R := rO (ownRow 0) k) (R' := rO1 h) (fun _ => rfl) (subO i) (rO1_part h k i hh) c) $$ Ho
  iintro Ho
  iapply (wp_store_part (m := outc) (R := rO (ownRow 0) k) (R' := rO1 h) (fun _ => rfl) (subO i) (rO1_part h k i hh) c
    (ovO i X.o o) (ovO_in i X.o o) (ovO_out i X.o o)) $$ Ho
  iintro Ho
  iapply (wp_load_part (m := statc) (R := rS (ownRow 0) k) (R' := rS1 nm) (fun _ => rfl) (subS n₁) (rS1_part nm k n₁ hm) c) $$ Hs
  iintro Hs
  iapply (wp_store_part (m := statc) (R := rS (ownRow 0) k) (R' := rS1 nm) (fun _ => rfl) (subS n₁) (rS1_part nm k n₁ hm) c
    (ovS n₁ X.s mt) (ovS_in n₁ X.s mt) (ovS_out n₁ X.s mt)) $$ Hs
  iintro Hs
  iapply (wp_load_part (m := statc) (R := rS (ownRow 0) k) (R' := rS1 nl) (fun _ => rfl) (subS n₂) (rS1_part nl k n₂ hl) c) $$ Hs
  iintro Hs
  iapply (wp_store_part (m := statc) (R := rS (ownRow 0) k) (R' := rS1 nl) (fun _ => rfl) (subS n₂) (rS1_part nl k n₂ hl) c
    (ovS n₂ (ovS n₁ X.s mt) lt) (ovS_in n₂ _ lt) (ovS_out n₂ _ lt)) $$ Hs
  iintro Hs
  iapply Hcont
  isplitl [Ho]; · iexact Ho
  iexact Hs

/-- A chunk with its first head stored. -/
def half (c : Dev nD) (k : Fin 4) : sProp 𝕄 :=
  iprop(∃ X : Chunk F, slots c (ownRow 0) k fullShare ⟨ovO 0 X.o (headO m c (headOf k 0)),
    ovS 2 (ovS 0 X.s (headM m c (headOf k 0))) (headL m c (headOf k 0))⟩)

theorem step_head0 (c : Dev nD) (h : Fin 8) (k : Fin 4) (nm nl : Fin 16) (hh : h = headOf k 0) (hm : nm.val = 4 * k.val + 0)
    (hl : nl.val = 4 * k.val + 2) {α : Type} {kk : PUnit → KP F α} {Q : α → sProp 𝕄} :
    free (F := F) c (ownRow 0) k ⊢ iprop((half m c k -∗ wpK c (kk ⟨⟩) Q)
        -∗ wpK c (headOut h nm nl (scores h (k0_pay1 (xstg m c) (wqstg m c)) (kSlab m c h)) (vSlab m c h) >>= kk) Q) := by
  unfold free half headOut
  iintro ⟨%X, H⟩ Hcont
  iapply (step_headStore c h k 0 0 2 nm nl hh hm hl _ _ _ X) $$ H
  iintro H
  iapply Hcont
  iexists X
  subst hh
  iexact H

theorem four_cases {V : Type} (f g : Fin 2 → V) (n : ℕ) (hn : n < 4) (x : V) :
    (if n = 3 then g 1 else if n = 1 then f 1 else if n = 2 then g 0 else if n = 0 then f 0 else x)
      = if h : n < 2 then f ⟨n, h⟩ else g ⟨n - 2, by omega⟩ := by
  match n, hn with
  | 0, _ => rfl
  | 1, _ => rfl
  | 2, _ => rfl
  | 3, _ => rfl

/-- The two heads stored are the chunk. -/
theorem chunk0_eq (c : Dev nD) (k : Fin 4) (X : Chunk F) :
    (⟨ovO 1 (ovO 0 X.o (headO m c (headOf k 0))) (headO m c (headOf k 1)),
      ovS 3 (ovS 1 (ovS 2 (ovS 0 X.s (headM m c (headOf k 0))) (headL m c (headOf k 0))) (headM m c (headOf k 1))) (headL m c (headOf k 1))⟩ : Chunk F)
      = chunk0 m c k := by
  unfold chunk0
  refine congrArg₂ Chunk.mk ?_ ?_
  · funext j
    have hj : (j 1).val < 2 := (j 1).isLt
    by_cases h1 : (j 1).val = 1
    · exact (if_pos h1).trans (congrArg (fun i => headO m c (headOf k i) (ix4 0 0 (j 2) (j 3))) (Fin.ext h1.symm))
    · have h0 : (j 1).val = 0 := by omega
      exact (if_neg h1).trans ((if_pos h0).trans (congrArg (fun i => headO m c (headOf k i) (ix4 0 0 (j 2) (j 3))) (Fin.ext h0.symm)))
  · funext j
    have hj : (j 1).val < 4 := (j 1).isLt
    exact four_cases (fun i => headM m c (headOf k i) (ix3 0 0 (j 2))) (fun i => headL m c (headOf k i) (ix3 0 0 (j 2))) (j 1).val hj (X.s j)

theorem step_head1 (c : Dev nD) (h : Fin 8) (k : Fin 4) (nm nl : Fin 16) (hh : h = headOf k 1) (hm : nm.val = 4 * k.val + 1)
    (hl : nl.val = 4 * k.val + 3) {α : Type} {kk : PUnit → KP F α} {Q : α → sProp 𝕄} :
    half m c k ⊢ iprop((slots c (ownRow 0) k fullShare (stage m 0 c k) -∗ wpK c (kk ⟨⟩) Q)
        -∗ wpK c (headOut h nm nl (scores h (k0_pay1 (xstg m c) (wqstg m c)) (kSlab m c h)) (vSlab m c h) >>= kk) Q) := by
  unfold half headOut
  iintro ⟨%X, H⟩ Hcont
  iapply (step_headStore c h k 1 1 3 nm nl hh hm hl _ _ _ _) $$ H
  iintro H
  iapply Hcont
  subst hh
  rw [stage_zero, ← chunk0_eq m c k X]
  iexact H

/-! ## A chunk sent and received -/

theorem step_send (c : Dev nD) (r : Fin 3) (k : Fin 4) (p p' : Dev nD) (hp : p = peer r c) (hp' : p' = peer r c)
    (l : List (Fin 3 × Fin 4)) {α : Type} {kk : PUnit → KP F α} {Q : α → sProp 𝕄} :
    iprop(ctx m K ∗ slots c (ownRow r) k fullShare (stage m r c k) ∗ free (F := F) (peer r c) (inRow r) k ∗ sendRes c r k
        ∗ owesX (F := F) c (dueL c ((r, k) :: l)))
      ⊢ iprop(((sent m c r k ∗ owesX (F := F) c (dueL c l)) -∗ wpK c (kk ⟨⟩) Q) -∗ wpK c (sendChunk r k p p' >>= kk) Q) := by
  subst hp; subst hp'
  unfold sendChunk slots free sendRes sent slots
  simp only [Prog.lift, Prog.bind_op, Prog.bind_ret, Prog.pure_eq_ret]
  iintro ⟨#Hctx, ⟨Ho, Hs⟩, ⟨%Y, Hyo, Hys⟩, ⟨Ha0, Ha1, Hts0, Hts1, Htr0, Htr1⟩, HO⟩ Hcont
  ihave #HI0 := (ctx_inv m K (c, some (false, r, k, 0))) $$ Hctx
  ihave #HI1 := (ctx_inv m K (c, some (false, r, k, 1))) $$ Hctx
  ihave #HJ0 := (ctx_inv m K (peer r c, some (true, r, k, 0))) $$ Hctx
  ihave #HJ1 := (ctx_inv m K (peer r c, some (true, r, k, 1))) $$ Hctx
  ihave #HR0 := (ctx_reached m K (c, some (false, r, k, 0))) $$ Hctx
  ihave #HR1 := (ctx_reached m K (c, some (false, r, k, 1))) $$ Hctx
  ihave #HS0 := (ctx_reached m K (peer r c, some (true, r, k, 0))) $$ Hctx
  ihave #HS1 := (ctx_reached m K (peer r c, some (true, r, k, 1))) $$ Hctx
  ihave Ho' := (owns_share (c : Thread nD τ) (oSlot (ownRow r) k) (PosShare.mem_left_op_right fullShare) (stage m r c k).o).1 $$ Ho
  icases Ho' with ⟨HoL, HoR⟩
  ihave Hs' := (owns_share (c : Thread nD τ) (sSlot (ownRow r) k) (PosShare.mem_left_op_right fullShare) (stage m r c k).s).1 $$ Hs
  icases Hs' with ⟨HsL, HsR⟩
  iapply (wp_send_slot m c (peer r c) (oSlot (ownRow r) k) (oSlot (inRow r) k) squeezes_S1x2x128x256_S2x128x256 (sendSem r k 0) (recvSem r k 0)
    (κ₁ := K (c, some (false, r, k, 0))) (κ₂ := K (peer r c, some (true, r, k, 0))) (N := NC 0) (q := qSent) (X := (stage m r c k).o) (Y := Y.o)
    (O := dueL c l + tallyAt (recvCell (peer r c) r k 1) () (NC 1))
    (duties_send m c r k 0) (duties_recv m (peer r c) r k 0) rfl (amount_send m c r k 0 0) (amount_recv m (peer r c) r k 0 0)
    (by rw [payload_send]; exact BI.Entails.refl _) (by rw [payload_recv]; unfold recvPay; rw [peer_peer]))
    $$ [HoR Hyo HO Hts0 Htr0]
  · isplitr; · iexact HI0
    isplitr; · iexact HR0
    isplitr; · iexact HJ0
    isplitr; · iexact HS0
    isplitl [HoR]; · iexact HoR
    isplitl [Hyo]; · iexact Hyo
    isplitl [HO]; · iexact HO
    isplitl [Hts0]; · iexact Hts0
    iexact Htr0
  iintro ⟨Hc0, HO⟩
  iapply (wp_send_slot m c (peer r c) (sSlot (ownRow r) k) (sSlot (inRow r) k) squeezes_S1x4x256_S4x256 (sendSem r k 1) (recvSem r k 1)
    (κ₁ := K (c, some (false, r, k, 1))) (κ₂ := K (peer r c, some (true, r, k, 1))) (N := NC 1) (q := qSent) (X := (stage m r c k).s) (Y := Y.s)
    (O := dueL c l)
    (duties_send m c r k 1) (duties_recv m (peer r c) r k 1) rfl (amount_send m c r k 1 0) (amount_recv m (peer r c) r k 1 0)
    (by rw [payload_send]; exact BI.Entails.refl _) (by rw [payload_recv]; unfold recvPay; rw [peer_peer]))
    $$ [HsR Hys HO Hts1 Htr1]
  · isplitr; · iexact HI1
    isplitr; · iexact HR1
    isplitr; · iexact HJ1
    isplitr; · iexact HS1
    isplitl [HsR]; · iexact HsR
    isplitl [Hys]; · iexact Hys
    isplitl [HO]; · iexact HO
    isplitl [Hts1]; · iexact Hts1
    iexact Htr1
  iintro ⟨Hc1, HO⟩
  iapply Hcont
  isplitr [HO]
  · isplitl [HoL HsL]
    · isplitl [HoL]; · iexact HoL
      iexact HsL
    isplitl [Ha0]; · iexact Ha0
    isplitl [Ha1]; · iexact Ha1
    isplitl [Hc0]; · iexact Hc0
    iexact Hc1
  iexact HO

theorem step_recv (c : Dev nD) (r : Fin 3) (k : Fin 4) (l : List (Fin 3 × Fin 4)) (hl : ∀ p ∈ l, sendIdx (r, k) < sendIdx p)
    {α : Type} {kk : PUnit → KP F α} {Q : α → sProp 𝕄} :
    iprop(ctx m K ∗ recvRes c r k ∗ owesX (F := F) c (dueL c l))
      ⊢ iprop(((got m c r k ∗ owesX (F := F) c (dueL c l)) -∗ wpK c (kk ⟨⟩) Q) -∗ wpK c (waitRecv r k >>= kk) Q) := by
  unfold waitRecv recvRes got slots
  simp only [Prog.lift, Prog.bind_op, Prog.bind_ret, Prog.pure_eq_ret]
  iintro ⟨#Hctx, ⟨Ha0, Ha1, Hc0, Hc1⟩, HO⟩ Hcont
  ihave #HI0 := (ctx_inv m K (c, some (true, r, k, 0))) $$ Hctx
  ihave #HI1 := (ctx_inv m K (c, some (true, r, k, 1))) $$ Hctx
  ihave #Hlev := (ctx_lev m K) $$ Hctx
  iapply (wp_wait_cell m c (κ := K (c, some (true, r, k, 0))) (dstw := oSlotQ (inRow r) k) (P := owns (c : Thread nD τ) (oSlot (inRow r) k) fullShare (stage m r (peer r c) k).o)
    (expect_recv m c r k 0) (rest_recv m c r k 0) l
    (fun p hp => by rw [lvS_recv]; have := hl p hp; omega) rfl) $$ [Ha0 Hc0 HO]
  · isplitr; · iexact HI0
    isplitr; · iexact Hlev
    isplitl [Hc0]; · iexact Hc0
    isplitl [Ha0]; · iexact Ha0
    iexact HO
  iintro ⟨Ho, Hz0, HO⟩
  iapply (wp_wait_cell m c (κ := K (c, some (true, r, k, 1))) (dstw := sSlotQ (inRow r) k) (P := owns (c : Thread nD τ) (sSlot (inRow r) k) fullShare (stage m r (peer r c) k).s)
    (expect_recv m c r k 1) (rest_recv m c r k 1) l
    (fun p hp => by rw [lvS_recv]; have := hl p hp; omega) rfl) $$ [Ha1 Hc1 HO]
  · isplitr; · iexact HI1
    isplitr; · iexact Hlev
    isplitl [Hc1]; · iexact Hc1
    isplitl [Ha1]; · iexact Ha1
    iexact HO
  iintro ⟨Hs, Hz1, HO⟩
  iapply Hcont
  isplitr [HO]
  · isplitl [Ho Hs]
    · isplitl [Ho]; · iexact Ho
      iexact Hs
    isplitl [Hz0]; · iexact Hz0
    iexact Hz1
  iexact HO

theorem step_gone (c : Dev nD) (r : Fin 3) (k : Fin 4) {α : Type} {kk : PUnit → KP F α} {Q : α → sProp 𝕄} :
    iprop(ctx m K ∗ sent m c r k ∗ owesX (F := F) c (dueL c []))
      ⊢ iprop(((gone m c r k ∗ owesX (F := F) c (dueL c [])) -∗ wpK c (kk ⟨⟩) Q) -∗ wpK c (waitSend r k >>= kk) Q) := by
  unfold waitSend sent gone slots
  simp only [Prog.lift, Prog.bind_op, Prog.bind_ret, Prog.pure_eq_ret]
  iintro ⟨#Hctx, ⟨⟨HoL, HsL⟩, Ha0, Ha1, Hc0, Hc1⟩, HO⟩ Hcont
  ihave #HI0 := (ctx_inv m K (c, some (false, r, k, 0))) $$ Hctx
  ihave #HI1 := (ctx_inv m K (c, some (false, r, k, 1))) $$ Hctx
  ihave #Hlev := (ctx_lev m K) $$ Hctx
  iapply (wp_wait_cell m c (κ := K (c, some (false, r, k, 0))) (dstw := oSlotQ (ownRow r) k) (P := owns (c : Thread nD τ) (oSlot (ownRow r) k) qSent (stage m r c k).o)
    (expect_send m c r k 0) (rest_send m c r k 0) []
    (fun p hp => absurd hp List.not_mem_nil) rfl) $$ [Ha0 Hc0 HO]
  · isplitr; · iexact HI0
    isplitr; · iexact Hlev
    isplitl [Hc0]; · iexact Hc0
    isplitl [Ha0]; · iexact Ha0
    iexact HO
  iintro ⟨HoR, Hz0, HO⟩
  iapply (wp_wait_cell m c (κ := K (c, some (false, r, k, 1))) (dstw := sSlotQ (ownRow r) k) (P := owns (c : Thread nD τ) (sSlot (ownRow r) k) qSent (stage m r c k).s)
    (expect_send m c r k 1) (rest_send m c r k 1) []
    (fun p hp => absurd hp List.not_mem_nil) rfl) $$ [Ha1 Hc1 HO]
  · isplitr; · iexact HI1
    isplitr; · iexact Hlev
    isplitl [Hc1]; · iexact Hc1
    isplitl [Ha1]; · iexact Ha1
    iexact HO
  iintro ⟨HsR, Hz1, HO⟩
  iapply Hcont
  isplitr [HO]
  · isplitl [HoL HsL HoR HsR]
    · isplitl [HoL HoR]
      · iapply (owns_share (c : Thread nD τ) (oSlot (ownRow r) k) (PosShare.mem_left_op_right fullShare) (stage m r c k).o).2
        isplitl [HoL]; · iexact HoL
        iexact HoR
      iapply (owns_share (c : Thread nD τ) (sSlot (ownRow r) k) (PosShare.mem_left_op_right fullShare) (stage m r c k).s).2
      isplitl [HsL]; · iexact HsL
      iexact HsR
    isplitl [Hz0]; · iexact Hz0
    iexact Hz1
  iexact HO

/-! ## A chunk merged -/

theorem step_mergeLoads (c : Dev nD) (r : Fin 3) (k : Fin 4) {α : Type} {kk : Pair F → KP F α} {Q : α → sProp 𝕄} :
    iprop(sent m c r k ∗ got m c r k)
      ⊢ iprop(((sent m c r k ∗ got m c r k) -∗ wpK c (kk (pairOf (stage m r c k) (stage m r (peer r c) k))) Q)
        -∗ wpK c (mergeLoads r k >>= kk) Q) := by
  unfold mergeLoads sent got slots
  simp only [Prog.lift, Prog.bind_op, Prog.bind_ret, Prog.pure_eq_ret]
  iintro ⟨⟨⟨Ho1, Hs1⟩, Hr1⟩, ⟨⟨Ho2, Hs2⟩, Hr2⟩⟩ Hcont
  iapply (wp_load_part (m := statc) (R := rS (ownRow r) k) (R' := rS2 (ownRow r) k 0) (fun _ => rfl) (sub2 0) (rS2_part _ k 0) c) $$ Hs1
  iintro Hs1
  iapply (wp_load_part (m := statc) (R := rS (ownRow r) k) (R' := rS2 (ownRow r) k 1) (fun _ => rfl) (sub2 1) (rS2_part _ k 1) c) $$ Hs1
  iintro Hs1
  iapply (wp_load_part (m := statc) (R := rS (inRow r) k) (R' := rS2 (inRow r) k 0) (fun _ => rfl) (sub2 0) (rS2_part _ k 0) c) $$ Hs2
  iintro Hs2
  iapply (wp_load_part (m := statc) (R := rS (inRow r) k) (R' := rS2 (inRow r) k 1) (fun _ => rfl) (sub2 1) (rS2_part _ k 1) c) $$ Hs2
  iintro Hs2
  iapply (wp_load_part (m := outc) (R := rO (ownRow r) k) (R' := rO (ownRow r) k) (fun _ => rfl) id (fun _ => rfl) c) $$ Ho1
  iintro Ho1
  iapply (wp_load_part (m := outc) (R := rO (inRow r) k) (R' := rO (inRow r) k) (fun _ => rfl) id (fun _ => rfl) c) $$ Ho2
  iintro Ho2
  iapply Hcont
  isplitl [Ho1 Hs1 Hr1]
  · isplitl [Ho1 Hs1]
    · isplitl [Ho1]; · iexact Ho1
      iexact Hs1
    iexact Hr1
  isplitl [Ho2 Hs2]
  · isplitl [Ho2]; · iexact Ho2
    iexact Hs2
  iexact Hr2

/-- The statistics with the pair of maxima stored. -/
def ovM (X : Vec F S1x4x256 .f32) (a : Vec F S1x2x256 .f32) : Vec F S1x4x256 .f32 := fun j =>
  if h : (j 1).val < 2 then a (ix3 0 ⟨(j 1).val, h⟩ (j 2)) else X j

omit [FloatOps F] [Named F] in
theorem pair_idx (y : S1x2x256.Idx) (n : Fin 2) (h : n.val = (y 1).val) : (ix3 0 n (y 2) : S1x2x256.Idx) = y := by
  have h0 : (y 0).val < 1 := (y 0).isLt
  funext a
  apply Fin.ext
  match a with
  | 0 => show 0 = (y 0).val; omega
  | 1 => exact h
  | 2 => rfl
omit [FloatOps F] [Named F] in
theorem four_idx (j : S1x4x256.Idx) (b n : Fin 2) (h : 2 * b.val + n.val = (j 1).val) : sub2 b (ix3 0 n (j 2)) = j := by
  have h0 : (j 0).val < 1 := (j 0).isLt
  funext a
  apply Fin.ext
  match a with
  | 0 => show 0 = (j 0).val; omega
  | 1 => exact h
  | 2 => rfl

omit [FloatOps F] [Named F] in
theorem ovM_in (X : Vec F S1x4x256 .f32) (a : Vec F S1x2x256 .f32) (y : S1x2x256.Idx) : ovM X a (sub2 0 y) = a y := by
  have h1 : (y 1).val < 2 := (y 1).isLt
  have hv : ((sub2 0 y) 1).val = (y 1).val := by show 2 * 0 + (y 1).val = _; omega
  refine (dif_pos (by rw [hv]; exact h1)).trans (congrArg a (pair_idx y _ hv))
omit [FloatOps F] [Named F] in
theorem ovM_out (X : Vec F S1x4x256 .f32) (a : Vec F S1x2x256 .f32) (j : S1x4x256.Idx) (h : ∀ y, sub2 0 y ≠ j) : ovM X a j = X j :=
  dif_neg fun e => h _ (four_idx j 0 ⟨(j 1).val, e⟩ (by show 2 * 0 + (j 1).val = _; omega))
omit [FloatOps F] [Named F] in
theorem joinS_in (a b : Vec F S1x2x256 .f32) (y : S1x2x256.Idx) : joinS a b (sub2 1 y) = b y := by
  have h1 : (y 1).val < 2 := (y 1).isLt
  have hv : ((sub2 1 y) 1).val = 2 + (y 1).val := rfl
  refine (dif_neg (by rw [hv]; omega)).trans (congrArg b (pair_idx y _ ?_))
  show ((sub2 1 y) 1).val - 2 = _
  rw [hv]; omega
omit [FloatOps F] [Named F] in
theorem joinS_out (X : Vec F S1x4x256 .f32) (a b : Vec F S1x2x256 .f32) (j : S1x4x256.Idx) (h : ∀ y, sub2 1 y ≠ j) :
    joinS a b j = ovM X a j := by
  have h4 : (j 1).val < 4 := (j 1).isLt
  by_cases h2 : (j 1).val < 2
  · unfold joinS ovM; rw [dif_pos h2, dif_pos h2]
  · exact absurd (four_idx j 1 ⟨(j 1).val - 2, by omega⟩ (by show 2 * 1 + ((j 1).val - 2) = _; omega)) (h _)

theorem step_mergeStore (c : Dev nD) (j : Fin 6) (k : Fin 4) (w : Pair F) {α : Type} {kk : PUnit → KP F α} {Q : α → sProp 𝕄} :
    free (F := F) c j k ⊢ iprop((slots c j k fullShare ⟨w.o, joinS w.m w.l⟩ -∗ wpK c (kk ⟨⟩) Q) -∗ wpK c (mergeStore j k w >>= kk) Q) := by
  unfold mergeStore free slots
  simp only [Prog.lift, Prog.bind_op, Prog.bind_ret, Prog.pure_eq_ret]
  iintro ⟨%X, Ho, Hs⟩ Hcont
  iapply (wp_load_part (m := outc) (R := rO j k) (R' := rO j k) (fun _ => rfl) id (fun _ => rfl) c) $$ Ho
  iintro Ho
  iapply (wp_store_part (m := outc) (R := rO j k) (R' := rO j k) (fun _ => rfl) id (fun _ => rfl) c
    w.o (fun _ => rfl) (fun i h => absurd rfl (h i))) $$ Ho
  iintro Ho
  iapply (wp_load_part (m := statc) (R := rS j k) (R' := rS2 j k 0) (fun _ => rfl) (sub2 0) (rS2_part j k 0) c) $$ Hs
  iintro Hs
  iapply (wp_store_part (m := statc) (R := rS j k) (R' := rS2 j k 0) (fun _ => rfl) (sub2 0) (rS2_part j k 0) c
    (ovM X.s w.m) (ovM_in X.s w.m) (ovM_out X.s w.m)) $$ Hs
  iintro Hs
  iapply (wp_load_part (m := statc) (R := rS j k) (R' := rS2 j k 1) (fun _ => rfl) (sub2 1) (rS2_part j k 1) c) $$ Hs
  iintro Hs
  iapply (wp_store_part (m := statc) (R := rS j k) (R' := rS2 j k 1) (fun _ => rfl) (sub2 1) (rS2_part j k 1) c
    (joinS w.m w.l) (joinS_in w.m w.l) (joinS_out X.s w.m w.l)) $$ Hs
  iintro Hs
  iapply Hcont
  isplitl [Ho]; · iexact Ho
  iexact Hs

theorem stage_next (r r' : Fin 3) (hr : r'.val = r.val + 1) (c : Dev nD) (k : Fin 4) :
    stage m r' c k = mergeC (stage m r c k) (stage m r (peer r c) k) := by
  unfold stage
  rw [hr]
  show mergeC _ (stageN m r.val (if h : r.val < 3 then peer ⟨r.val, h⟩ c else c) k) = _
  rw [dif_pos r.isLt]

theorem step_merge (c : Dev nD) (r r' : Fin 3) (hr : r'.val = r.val + 1) (j : Fin 6) (hj : j = ownRow r') (k : Fin 4)
    (l : List (Fin 3 × Fin 4)) (hl : ∀ p ∈ l, sendIdx (r, k) < sendIdx p) {α : Type} {kk : PUnit → KP F α} {Q : α → sProp 𝕄} :
    iprop(ctx m K ∗ sent m c r k ∗ recvRes c r k ∗ free (F := F) c (ownRow r') k ∗ owesX (F := F) c (dueL c l))
      ⊢ iprop(((sent m c r k ∗ got m c r k ∗ slots c (ownRow r') k fullShare (stage m r' c k) ∗ owesX (F := F) c (dueL c l)) -∗ wpK c (kk ⟨⟩) Q)
        -∗ wpK c (mergeStep r j k >>= kk) Q) := by
  subst hj
  unfold mergeStep
  rw [bind_assoc]
  iintro ⟨#Hctx, Hsent, Hrecv, Hfree, HO⟩ Hcont
  iapply (step_recv m K c r k l hl) $$ [Hrecv HO]
  · isplitr; · iexact Hctx
    isplitl [Hrecv]; · iexact Hrecv
    iexact HO
  iintro ⟨Hgot, HO⟩
  rw [bind_assoc]
  iapply (step_mergeLoads m c r k) $$ [Hsent Hgot]
  · isplitl [Hsent]; · iexact Hsent
    iexact Hgot
  iintro ⟨Hsent, Hgot⟩
  iapply (step_mergeStore c (ownRow r') k _) $$ Hfree
  iintro Hnew
  iapply Hcont
  isplitl [Hsent]; · iexact Hsent
  isplitl [Hgot]; · iexact Hgot
  isplitl [Hnew]
  · rw [stage_next m r r' hr]; iexact Hnew
  iexact HO

theorem step_proj (c : Dev nD) (k : Fin 4) (l : List (Fin 3 × Fin 4)) (hl : ∀ p ∈ l, sendIdx (2, k) < sendIdx p)
    {α : Type} {kk : FVec F S256x1024 .f32 → KP F α} {Q : α → sProp 𝕄} :
    iprop(ctx m K ∗ sent m c 2 k ∗ recvRes c 2 k ∗ woHeld m c ∗ owesX (F := F) c (dueL c l))
      ⊢ iprop(((sent m c 2 k ∗ got m c 2 k ∗ woHeld m c ∗ owesX (F := F) c (dueL c l)) -∗ wpK c (kk (projOf m c k)) Q)
        -∗ wpK c (projStep k >>= kk) Q) := by
  unfold projStep
  rw [bind_assoc]
  iintro ⟨#Hctx, Hsent, Hrecv, Hwo, HO⟩ Hcont
  iapply (step_recv m K c 2 k l hl) $$ [Hrecv HO]
  · isplitr; · iexact Hctx
    isplitl [Hrecv]; · iexact Hrecv
    iexact HO
  iintro ⟨Hgot, HO⟩
  rw [bind_assoc]
  iapply (step_mergeLoads m c 2 k) $$ [Hsent Hgot]
  · isplitl [Hsent]; · iexact Hsent
    iexact Hgot
  iintro ⟨Hsent, Hgot⟩
  rw [bind_assoc]
  iapply (step_woLoad m c (headOf k 0)) $$ Hwo
  iintro Hwo
  rw [bind_assoc]
  iapply (step_woLoad m c (headOf k 1)) $$ Hwo
  iintro Hwo
  rw [pure_bind]
  iapply Hcont
  isplitl [Hsent]; · iexact Hsent
  isplitl [Hgot]; · iexact Hgot
  isplitl [Hwo]; · iexact Hwo
  iexact HO

end Cert.TreeProof

end
-- ==== Proof.Body.lean ====
/-
# The body on one device

The body, step by step, from what a device holds at launch to what it holds at the end: the order is the program's, and
each step is one lemma of `Steps` or `Exchange`.
-/
module

public import proofs.«01_k».proof.Proof.Exchange

@[expose] public section

noncomputable section

namespace Cert.TreeProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Families of three, four and eight -/

omit [FloatOps F] [Named F] in
theorem bigSep_three (P : Fin 3 → sProp 𝕄) : bigSep Finset.univ P = iprop(P 0 ∗ P 1 ∗ P 2) := by
  rw [bigSep_univ_eq_bigSepL [(0 : Fin 3), 1, 2] (by decide) (by decide)]
  simp only [bigSepL_cons_cons, bigSepL_singleton]
  rfl
omit [FloatOps F] [Named F] in
theorem bigSep_four (P : Fin 4 → sProp 𝕄) : bigSep Finset.univ P = iprop(P 0 ∗ P 1 ∗ P 2 ∗ P 3) := by
  rw [bigSep_univ_eq_bigSepL [(0 : Fin 4), 1, 2, 3] (by decide) (by decide)]
  simp only [bigSepL_cons_cons, bigSepL_singleton]
  rfl
omit [FloatOps F] [Named F] in
theorem bigSep_eight (P : Fin 8 → sProp 𝕄) : bigSep Finset.univ P = iprop(P 0 ∗ P 1 ∗ P 2 ∗ P 3 ∗ P 4 ∗ P 5 ∗ P 6 ∗ P 7) := by
  rw [bigSep_univ_eq_bigSepL [(0 : Fin 8), 1, 2, 3, 4, 5, 6, 7] (by decide) (by decide)]
  simp only [bigSepL_cons_cons, bigSepL_singleton]
  rfl

/-! ## The partners by number -/

theorem dev1_eq (c : Dev nD) : (⟨k0_dev1 c, k0_dev1_lt c⟩ : Dev nD) = peer 0 c := by revert c; decide
theorem dev2_eq (c : Dev nD) : (⟨k0_dev2 c, k0_dev2_lt c⟩ : Dev nD) = peer 1 c := by revert c; decide
theorem dev3_eq (c : Dev nD) : (⟨k0_dev3 c, k0_dev3_lt c⟩ : Dev nD) = peer 2 c := by revert c; decide
theorem dev4_eq (c : Dev nD) : (⟨k0_dev4 c, k0_dev4_lt c⟩ : Dev nD) = peer 0 c := by revert c; decide
theorem dev5_eq (c : Dev nD) : (⟨k0_dev5 c, k0_dev5_lt c⟩ : Dev nD) = peer 0 c := by revert c; decide
theorem dev6_eq (c : Dev nD) : (⟨k0_dev6 c, k0_dev6_lt c⟩ : Dev nD) = peer 0 c := by revert c; decide
theorem dev7_eq (c : Dev nD) : (⟨k0_dev7 c, k0_dev7_lt c⟩ : Dev nD) = peer 0 c := by revert c; decide
theorem dev8_eq (c : Dev nD) : (⟨k0_dev8 c, k0_dev8_lt c⟩ : Dev nD) = peer 1 c := by revert c; decide
theorem dev9_eq (c : Dev nD) : (⟨k0_dev9 c, k0_dev9_lt c⟩ : Dev nD) = peer 1 c := by revert c; decide
theorem dev10_eq (c : Dev nD) : (⟨k0_dev10 c, k0_dev10_lt c⟩ : Dev nD) = peer 0 c := by revert c; decide
theorem dev11_eq (c : Dev nD) : (⟨k0_dev11 c, k0_dev11_lt c⟩ : Dev nD) = peer 0 c := by revert c; decide
theorem dev12_eq (c : Dev nD) : (⟨k0_dev12 c, k0_dev12_lt c⟩ : Dev nD) = peer 1 c := by revert c; decide
theorem dev13_eq (c : Dev nD) : (⟨k0_dev13 c, k0_dev13_lt c⟩ : Dev nD) = peer 1 c := by revert c; decide
theorem dev14_eq (c : Dev nD) : (⟨k0_dev14 c, k0_dev14_lt c⟩ : Dev nD) = peer 0 c := by revert c; decide
theorem dev15_eq (c : Dev nD) : (⟨k0_dev15 c, k0_dev15_lt c⟩ : Dev nD) = peer 0 c := by revert c; decide
theorem dev16_eq (c : Dev nD) : (⟨k0_dev16 c, k0_dev16_lt c⟩ : Dev nD) = peer 2 c := by revert c; decide
theorem dev17_eq (c : Dev nD) : (⟨k0_dev17 c, k0_dev17_lt c⟩ : Dev nD) = peer 2 c := by revert c; decide
theorem dev18_eq (c : Dev nD) : (⟨k0_dev18 c, k0_dev18_lt c⟩ : Dev nD) = peer 1 c := by revert c; decide
theorem dev19_eq (c : Dev nD) : (⟨k0_dev19 c, k0_dev19_lt c⟩ : Dev nD) = peer 1 c := by revert c; decide
theorem dev20_eq (c : Dev nD) : (⟨k0_dev20 c, k0_dev20_lt c⟩ : Dev nD) = peer 2 c := by revert c; decide
theorem dev21_eq (c : Dev nD) : (⟨k0_dev21 c, k0_dev21_lt c⟩ : Dev nD) = peer 2 c := by revert c; decide
theorem dev22_eq (c : Dev nD) : (⟨k0_dev22 c, k0_dev22_lt c⟩ : Dev nD) = peer 1 c := by revert c; decide
theorem dev23_eq (c : Dev nD) : (⟨k0_dev23 c, k0_dev23_lt c⟩ : Dev nD) = peer 1 c := by revert c; decide
theorem dev24_eq (c : Dev nD) : (⟨k0_dev24 c, k0_dev24_lt c⟩ : Dev nD) = peer 2 c := by revert c; decide
theorem dev25_eq (c : Dev nD) : (⟨k0_dev25 c, k0_dev25_lt c⟩ : Dev nD) = peer 2 c := by revert c; decide
theorem dev26_eq (c : Dev nD) : (⟨k0_dev26 c, k0_dev26_lt c⟩ : Dev nD) = peer 2 c := by revert c; decide
theorem dev27_eq (c : Dev nD) : (⟨k0_dev27 c, k0_dev27_lt c⟩ : Dev nD) = peer 2 c := by revert c; decide

variable (m : (ℓ : Loc nD τ sig) → Buf (Elt F) ℓ) (K : Dev nD × CI → ℕ)

/-! ## The staged blocks -/

/-- A staged buffer holding `X`. -/
abbrev stgAt (c : Dev nD) (b : Ref sig .tc) (X : b.ty.Contents (Elt F)) : sProp 𝕄 := (((c : Thread nD τ).loc b) ↦{fullShare} X)

theorem hz2 : (![0, 0] : Fin 2 → Nat) = fun _ => 0 := funext fun a => by fin_cases a <;> rfl

abbrev rOut : Rect S256x1024 := Rect.unit (s := S256x1024) ![0, 0] S256x1024.size inb_S256x1024_S256x1024_0_0
abbrev rWq : Rect S1024x1024 := Rect.unit (s := S1024x1024) ![0, 0] S1024x1024.size inb_S1024x1024_S1024x1024_0_0
omit [FloatOps F] [Named F] in
theorem read_stg0 (f : Vec F S256x1024 .f32) :
    (Memref.whole cc0_stg0_0 : Memref sig .tc .vmem S256x1024 .f32).view.readAt (Elt F) rOut.toLoadRect f = f :=
  Memref.readAt_unit_zero (Elt F) cc0_stg0_0 hz2 _ f
omit [FloatOps F] [Named F] in
theorem read_stg1 (f : Vec F S1024x1024 .f32) :
    (Memref.whole cc0_stg1_0 : Memref sig .tc .vmem S1024x1024 .f32).view.readAt (Elt F) rWq.toLoadRect f = f :=
  Memref.readAt_unit_zero (Elt F) cc0_stg1_0 hz2 _ f
omit [FloatOps F] [Named F] in
theorem write_stg2 (f w : Vec F S256x1024 .f32) :
    ((Memref.whole cc0_stg2_0 : Memref sig .tc .vmem S256x1024 .f32).access rOut).write (Elt F) f w Finset.univ = w :=
  Memref.write_access_unit_zero_univ (Elt F) cc0_stg2_0 hz2 _ f w

theorem step_deviceId (c : Dev nD) {α : Type} {k : Dev nD → KP F α} {Q : α → sProp 𝕄} :
    wpK c (k c) Q ⊢ wpK c (Prog.lift .deviceId >>= k) Q := by
  simp only [Prog.lift, Prog.bind_op, Prog.bind_ret, Prog.pure_eq_ret, wp_deviceId]
  exact BI.Entails.refl _

theorem step_xLoad (c : Dev nD) {α : Type} {k : Vec F S256x1024 .f32 → KP F α} {Q : α → sProp 𝕄} :
    stgAt c cc0_stg0_0 (xstg m c) ⊢ iprop((stgAt c cc0_stg0_0 (xstg m c) -∗ wpK c (k (xstg m c)) Q) -∗ wpK c (xLoad >>= k) Q) := by
  unfold xLoad
  simp only [Prog.lift, Prog.bind_op, Prog.bind_ret, Prog.pure_eq_ret]
  iintro H Hcont
  iapply (wp_load 𝒱₀ (c : Thread nD τ) none Set.univ (m := Memref.whole cc0_stg0_0) (Finset.subset_univ _)) $$ H
  iintro H
  rw [read_stg0]
  iapply Hcont; iexact H

theorem step_wqLoad (c : Dev nD) {α : Type} {k : Vec F S1024x1024 .f32 → KP F α} {Q : α → sProp 𝕄} :
    stgAt c cc0_stg1_0 (wqstg m c) ⊢ iprop((stgAt c cc0_stg1_0 (wqstg m c) -∗ wpK c (k (wqstg m c)) Q) -∗ wpK c (wqLoad >>= k) Q) := by
  unfold wqLoad
  simp only [Prog.lift, Prog.bind_op, Prog.bind_ret, Prog.pure_eq_ret]
  iintro H Hcont
  iapply (wp_load 𝒱₀ (c : Thread nD τ) none Set.univ (m := Memref.whole cc0_stg1_0) (Finset.subset_univ _)) $$ H
  iintro H
  rw [read_stg1]
  iapply Hcont; iexact H

theorem step_outStore (c : Dev nD) (w : Vec F S256x1024 .f32) {α : Type} {k : PUnit → KP F α} {Q : α → sProp 𝕄} :
    iprop(∃ f, stgAt (F := F) c cc0_stg2_0 f) ⊢ iprop((stgAt c cc0_stg2_0 w -∗ wpK c (k ⟨⟩) Q) -∗ wpK c (outStore w >>= k) Q) := by
  unfold outStore
  simp only [Prog.lift, Prog.bind_op, Prog.bind_ret, Prog.pure_eq_ret]
  iintro ⟨%f, H⟩ Hcont
  iapply (wp_load 𝒱₀ (c : Thread nD τ) none Set.univ (m := Memref.whole cc0_stg2_0) (Finset.subset_univ _)) $$ H
  iintro H
  iapply (wp_store 𝒱₀ (c : Thread nD τ) none Set.univ (m := Memref.whole cc0_stg2_0) (r := rOut) (Mk := Finset.univ) (Finset.subset_univ _)) $$ H
  iintro H
  rw [write_stg2]
  iapply Hcont; iexact H

/-! ## The body -/

/-- A device's landing slots of round `r`. -/
def landing (c : Dev nD) (r : Fin 3) : sProp 𝕄 := bigSep Finset.univ fun k : Fin 4 => free c (inRow r) k

/-- What a device starts with. -/
def bodyIn (c : Dev nD) : sProp 𝕄 :=
  iprop(ctx m K ∗ (bigSep Finset.univ fun r : Fin 3 => dutyTok ER (barCell (peer r c)) 0 r)
    ∗ cred (tallyAt (barCell c) () 3) ∗ atPos ER (barCell c) 0 ∅ 0
    ∗ (bigSep Finset.univ fun r : Fin 3 => bigSep Finset.univ fun k : Fin 4 => sendRes c r k)
    ∗ (bigSep Finset.univ fun r : Fin 3 => bigSep Finset.univ fun k : Fin 4 => recvRes c r k)
    ∗ (bigSep Finset.univ fun r : Fin 3 => landing c r)
    ∗ (bigSep Finset.univ fun r : Fin 3 => bigSep Finset.univ fun k : Fin 4 => free c (ownRow r) k)
    ∗ (bigSep Finset.univ fun h : Fin 8 => kvSrc m c h) ∗ (bigSep Finset.univ fun s : Fin 4 => kvFree c s)
    ∗ woSrc m c ∗ woFree c ∗ owesX c (O₀ c)
    ∗ stgAt c cc0_stg0_0 (xstg m c) ∗ stgAt c cc0_stg1_0 (wqstg m c) ∗ ∃ f, stgAt c cc0_stg2_0 f)

/-- What it ends with. -/
def bodyOut (c : Dev nD) : sProp 𝕄 :=
  iprop((bigSep Finset.univ fun r : Fin 3 => bigSep Finset.univ fun k : Fin 4 => gone m c r k)
    ∗ (bigSep Finset.univ fun r : Fin 3 => bigSep Finset.univ fun k : Fin 4 => got m c r k)
    ∗ semVal (barCell c) 0
    ∗ (bigSep Finset.univ fun h : Fin 8 => kvSrc m c h) ∗ (bigSep Finset.univ fun s : Fin 4 => kvFree c s)
    ∗ woHeld m c ∗ owesX c (dueL c [])
    ∗ stgAt c cc0_stg0_0 (xstg m c) ∗ stgAt c cc0_stg1_0 (wqstg m c) ∗ stgAt c cc0_stg2_0 (outOf m c))

set_option maxHeartbeats 4000000 in
set_option maxRecDepth 20000 in
/-- The body, run from `bodyIn` to `bodyOut`. -/
theorem sound_body (c : Dev nD) (Kt : PUnit → sProp 𝕄) :
    iprop(bodyIn m K c ∗ (bodyOut m c -∗ Kt ⟨⟩)) ⊢ wpK c (bodyP (F := F)) Kt := by
  unfold bodyIn bodyP
  simp only [bigSep_three, bigSep_four, bigSep_eight]
  iintro ⟨⟨#Hctx, ⟨Hb0, Hb1, Hb2⟩, HcB, HaB, ⟨⟨HS0_0, HS0_1, HS0_2, HS0_3⟩, ⟨HS1_0, HS1_1, HS1_2, HS1_3⟩, ⟨HS2_0, HS2_1, HS2_2, HS2_3⟩⟩, ⟨⟨HR0_0, HR0_1, HR0_2, HR0_3⟩, ⟨HR1_0, HR1_1, HR1_2, HR1_3⟩, ⟨HR2_0, HR2_1, HR2_2, HR2_3⟩⟩, ⟨HL0, HL1, HL2⟩, ⟨⟨E0_0, E0_1, E0_2, E0_3⟩, ⟨E1_0, E1_1, E1_2, E1_3⟩, ⟨E2_0, E2_1, E2_2, E2_3⟩⟩, ⟨HK0, HK1, HK2, HK3, HK4, HK5, HK6, HK7⟩, ⟨HF0, HF1, HF2, HF3⟩, HWs, HWf, HO, Hx, Hwq, Hout⟩, Hend⟩
  iapply (step_deviceId c)
  unfold landing
  unfold O₀
  iapply (wp_handshake m K c _ 0 (dev1_eq c) (O := O₁ c)) $$ [Hb0 HL0 HO]
  · isplitr; · iexact Hctx
    isplitl [Hb0]; · iexact Hb0
    isplitl [HL0]; · iexact HL0
    iexact HO
  iintro HO
  unfold O₁
  iapply (wp_handshake m K c _ 1 (dev2_eq c) (O := O₂ c)) $$ [Hb1 HL1 HO]
  · isplitr; · iexact Hctx
    isplitl [Hb1]; · iexact Hb1
    isplitl [HL1]; · iexact HL1
    iexact HO
  iintro HO
  unfold O₂ sendOrder
  iapply (wp_handshake m K c _ 2 (dev3_eq c) (O := dueL c [(0, 0), (0, 1), (1, 0), (0, 2), (1, 1), (0, 3), (2, 0), (1, 2), (2, 1), (1, 3), (2, 2), (2, 3)])) $$ [Hb2 HL2 HO]
  · isplitr; · iexact Hctx
    isplitl [Hb2]; · iexact Hb2
    isplitl [HL2]; · iexact HL2
    iexact HO
  iintro HO
  iapply (step_headStart m c 0 0) $$ [HK0 HF0]
  · isplitl [HK0]; · iexact HK0
    iexact HF0
  iintro Hfl0
  iapply (step_headStart m c 1 1) $$ [HK1 HF1]
  · isplitl [HK1]; · iexact HK1
    iexact HF1
  iintro Hfl1
  iapply (step_headStart m c 2 2) $$ [HK2 HF2]
  · isplitl [HK2]; · iexact HK2
    iexact HF2
  iintro Hfl2
  iapply (step_woStart m c) $$ [HWs HWf]
  · isplitl [HWs]; · iexact HWs
    iexact HWf
  iintro HWfl
  iapply (step_xLoad m c) $$ Hx
  iintro Hx
  iapply (step_wqLoad m c) $$ Hwq
  iintro Hwq
  iapply (wp_barrier m K c [(0, 0), (0, 1), (1, 0), (0, 2), (1, 1), (0, 3), (2, 0), (1, 2), (2, 1), (1, 3), (2, 2), (2, 3)]) $$ [HcB HaB HO]
  · isplitr; · iexact Hctx
    isplitl [HcB]; · iexact HcB
    isplitl [HaB]; · iexact HaB
    iexact HO
  iintro ⟨Hbp, HzB, HO⟩
  unfold barPay
  simp only [bigSep_three, bigSep_four]
  icases Hbp with ⟨⟨P0_0, P0_1, P0_2, P0_3⟩, ⟨P1_0, P1_1, P1_2, P1_3⟩, ⟨P2_0, P2_1, P2_2, P2_3⟩⟩
  iapply (step_headWait m K c 0 0 [(0, 0), (0, 1), (1, 0), (0, 2), (1, 1), (0, 3), (2, 0), (1, 2), (2, 1), (1, 3), (2, 2), (2, 3)]) $$ [Hfl0 HO]
  · isplitr; · iexact Hctx
    isplitl [Hfl0]; · iexact Hfl0
    iexact HO
  iintro ⟨Hh0, HO⟩
  iapply (step_kLoad m c 0 0) $$ Hh0
  iintro Hh0
  iapply (step_headWait m K c 1 1 [(0, 0), (0, 1), (1, 0), (0, 2), (1, 1), (0, 3), (2, 0), (1, 2), (2, 1), (1, 3), (2, 2), (2, 3)]) $$ [Hfl1 HO]
  · isplitr; · iexact Hctx
    isplitl [Hfl1]; · iexact Hfl1
    iexact HO
  iintro ⟨Hh1, HO⟩
  iapply (step_kLoad m c 1 1) $$ Hh1
  iintro Hh1
  iapply (step_vLoad m c 0 0) $$ Hh0
  iintro Hh0
  iapply (step_headStart m c 3 3) $$ [HK3 HF3]
  · isplitl [HK3]; · iexact HK3
    iexact HF3
  iintro Hfl3
  iapply (step_head0 m c 0 0 0 2 rfl rfl rfl) $$ E0_0
  iintro Hhalf0
  iapply (step_headWait m K c 2 2 [(0, 0), (0, 1), (1, 0), (0, 2), (1, 1), (0, 3), (2, 0), (1, 2), (2, 1), (1, 3), (2, 2), (2, 3)]) $$ [Hfl2 HO]
  · isplitr; · iexact Hctx
    isplitl [Hfl2]; · iexact Hfl2
    iexact HO
  iintro ⟨Hh2, HO⟩
  iapply (step_kLoad m c 2 2) $$ Hh2
  iintro Hh2
  iapply (step_vLoad m c 1 1) $$ Hh1
  iintro Hh1
  ihave Hrel := (kvHeld_release m c 0 0) $$ Hh0
  icases Hrel with ⟨HK0, HF0⟩
  iapply (step_headStart m c 4 0) $$ [HK4 HF0]
  · isplitl [HK4]; · iexact HK4
    iexact HF0
  iintro Hfl4
  iapply (step_head1 m c 1 0 1 3 rfl rfl rfl) $$ Hhalf0
  iintro R0_0
  iapply (step_send m K c 0 0 _ _ (dev4_eq c) (dev5_eq c) [(0, 1), (1, 0), (0, 2), (1, 1), (0, 3), (2, 0), (1, 2), (2, 1), (1, 3), (2, 2), (2, 3)]) $$ [R0_0 P0_0 HS0_0 HO]
  · isplitr; · iexact Hctx
    isplitl [R0_0]; · iexact R0_0
    isplitl [P0_0]; · iexact P0_0
    isplitl [HS0_0]; · iexact HS0_0
    iexact HO
  iintro ⟨T0_0, HO⟩
  iapply (step_headWait m K c 3 3 [(0, 1), (1, 0), (0, 2), (1, 1), (0, 3), (2, 0), (1, 2), (2, 1), (1, 3), (2, 2), (2, 3)]) $$ [Hfl3 HO]
  · isplitr; · iexact Hctx
    isplitl [Hfl3]; · iexact Hfl3
    iexact HO
  iintro ⟨Hh3, HO⟩
  iapply (step_kLoad m c 3 3) $$ Hh3
  iintro Hh3
  iapply (step_vLoad m c 2 2) $$ Hh2
  iintro Hh2
  ihave Hrel := (kvHeld_release m c 1 1) $$ Hh1
  icases Hrel with ⟨HK1, HF1⟩
  iapply (step_headStart m c 5 1) $$ [HK5 HF1]
  · isplitl [HK5]; · iexact HK5
    iexact HF1
  iintro Hfl5
  iapply (step_head0 m c 2 1 4 6 rfl rfl rfl) $$ E0_1
  iintro Hhalf1
  iapply (step_headWait m K c 4 0 [(0, 1), (1, 0), (0, 2), (1, 1), (0, 3), (2, 0), (1, 2), (2, 1), (1, 3), (2, 2), (2, 3)]) $$ [Hfl4 HO]
  · isplitr; · iexact Hctx
    isplitl [Hfl4]; · iexact Hfl4
    iexact HO
  iintro ⟨Hh4, HO⟩
  iapply (step_kLoad m c 4 0) $$ Hh4
  iintro Hh4
  iapply (step_vLoad m c 3 3) $$ Hh3
  iintro Hh3
  ihave Hrel := (kvHeld_release m c 2 2) $$ Hh2
  icases Hrel with ⟨HK2, HF2⟩
  iapply (step_headStart m c 6 2) $$ [HK6 HF2]
  · isplitl [HK6]; · iexact HK6
    iexact HF2
  iintro Hfl6
  iapply (step_head1 m c 3 1 5 7 rfl rfl rfl) $$ Hhalf1
  iintro R0_1
  iapply (step_send m K c 0 1 _ _ (dev6_eq c) (dev7_eq c) [(1, 0), (0, 2), (1, 1), (0, 3), (2, 0), (1, 2), (2, 1), (1, 3), (2, 2), (2, 3)]) $$ [R0_1 P0_1 HS0_1 HO]
  · isplitr; · iexact Hctx
    isplitl [R0_1]; · iexact R0_1
    isplitl [P0_1]; · iexact P0_1
    isplitl [HS0_1]; · iexact HS0_1
    iexact HO
  iintro ⟨T0_1, HO⟩
  iapply (step_headWait m K c 5 1 [(1, 0), (0, 2), (1, 1), (0, 3), (2, 0), (1, 2), (2, 1), (1, 3), (2, 2), (2, 3)]) $$ [Hfl5 HO]
  · isplitr; · iexact Hctx
    isplitl [Hfl5]; · iexact Hfl5
    iexact HO
  iintro ⟨Hh5, HO⟩
  iapply (step_kLoad m c 5 1) $$ Hh5
  iintro Hh5
  iapply (step_vLoad m c 4 0) $$ Hh4
  iintro Hh4
  ihave Hrel := (kvHeld_release m c 3 3) $$ Hh3
  icases Hrel with ⟨HK3, HF3⟩
  iapply (step_headStart m c 7 3) $$ [HK7 HF3]
  · isplitl [HK7]; · iexact HK7
    iexact HF3
  iintro Hfl7
  iapply (step_head0 m c 4 2 8 10 rfl rfl rfl) $$ E0_2
  iintro Hhalf2
  iapply (step_merge m K c 0 1 rfl 2 rfl 0 [(1, 0), (0, 2), (1, 1), (0, 3), (2, 0), (1, 2), (2, 1), (1, 3), (2, 2), (2, 3)] (by decide)) $$ [T0_0 HR0_0 E1_0 HO]
  · isplitr; · iexact Hctx
    isplitl [T0_0]; · iexact T0_0
    isplitl [HR0_0]; · iexact HR0_0
    isplitl [E1_0]; · iexact E1_0
    iexact HO
  iintro ⟨T0_0, G0_0, R1_0, HO⟩
  iapply (step_send m K c 1 0 _ _ (dev8_eq c) (dev9_eq c) [(0, 2), (1, 1), (0, 3), (2, 0), (1, 2), (2, 1), (1, 3), (2, 2), (2, 3)]) $$ [R1_0 P1_0 HS1_0 HO]
  · isplitr; · iexact Hctx
    isplitl [R1_0]; · iexact R1_0
    isplitl [P1_0]; · iexact P1_0
    isplitl [HS1_0]; · iexact HS1_0
    iexact HO
  iintro ⟨T1_0, HO⟩
  iapply (step_headWait m K c 6 2 [(0, 2), (1, 1), (0, 3), (2, 0), (1, 2), (2, 1), (1, 3), (2, 2), (2, 3)]) $$ [Hfl6 HO]
  · isplitr; · iexact Hctx
    isplitl [Hfl6]; · iexact Hfl6
    iexact HO
  iintro ⟨Hh6, HO⟩
  iapply (step_kLoad m c 6 2) $$ Hh6
  iintro Hh6
  iapply (step_vLoad m c 5 1) $$ Hh5
  iintro Hh5
  iapply (step_head1 m c 5 2 9 11 rfl rfl rfl) $$ Hhalf2
  iintro R0_2
  iapply (step_send m K c 0 2 _ _ (dev10_eq c) (dev11_eq c) [(1, 1), (0, 3), (2, 0), (1, 2), (2, 1), (1, 3), (2, 2), (2, 3)]) $$ [R0_2 P0_2 HS0_2 HO]
  · isplitr; · iexact Hctx
    isplitl [R0_2]; · iexact R0_2
    isplitl [P0_2]; · iexact P0_2
    isplitl [HS0_2]; · iexact HS0_2
    iexact HO
  iintro ⟨T0_2, HO⟩
  iapply (step_headWait m K c 7 3 [(1, 1), (0, 3), (2, 0), (1, 2), (2, 1), (1, 3), (2, 2), (2, 3)]) $$ [Hfl7 HO]
  · isplitr; · iexact Hctx
    isplitl [Hfl7]; · iexact Hfl7
    iexact HO
  iintro ⟨Hh7, HO⟩
  iapply (step_kLoad m c 7 3) $$ Hh7
  iintro Hh7
  iapply (step_vLoad m c 6 2) $$ Hh6
  iintro Hh6
  iapply (step_head0 m c 6 3 12 14 rfl rfl rfl) $$ E0_3
  iintro Hhalf3
  iapply (step_merge m K c 0 1 rfl 2 rfl 1 [(1, 1), (0, 3), (2, 0), (1, 2), (2, 1), (1, 3), (2, 2), (2, 3)] (by decide)) $$ [T0_1 HR0_1 E1_1 HO]
  · isplitr; · iexact Hctx
    isplitl [T0_1]; · iexact T0_1
    isplitl [HR0_1]; · iexact HR0_1
    isplitl [E1_1]; · iexact E1_1
    iexact HO
  iintro ⟨T0_1, G0_1, R1_1, HO⟩
  iapply (step_send m K c 1 1 _ _ (dev12_eq c) (dev13_eq c) [(0, 3), (2, 0), (1, 2), (2, 1), (1, 3), (2, 2), (2, 3)]) $$ [R1_1 P1_1 HS1_1 HO]
  · isplitr; · iexact Hctx
    isplitl [R1_1]; · iexact R1_1
    isplitl [P1_1]; · iexact P1_1
    isplitl [HS1_1]; · iexact HS1_1
    iexact HO
  iintro ⟨T1_1, HO⟩
  iapply (step_vLoad m c 7 3) $$ Hh7
  iintro Hh7
  iapply (step_head1 m c 7 3 13 15 rfl rfl rfl) $$ Hhalf3
  iintro R0_3
  iapply (step_send m K c 0 3 _ _ (dev14_eq c) (dev15_eq c) [(2, 0), (1, 2), (2, 1), (1, 3), (2, 2), (2, 3)]) $$ [R0_3 P0_3 HS0_3 HO]
  · isplitr; · iexact Hctx
    isplitl [R0_3]; · iexact R0_3
    isplitl [P0_3]; · iexact P0_3
    isplitl [HS0_3]; · iexact HS0_3
    iexact HO
  iintro ⟨T0_3, HO⟩
  iapply (step_merge m K c 1 2 rfl 4 rfl 0 [(2, 0), (1, 2), (2, 1), (1, 3), (2, 2), (2, 3)] (by decide)) $$ [T1_0 HR1_0 E2_0 HO]
  · isplitr; · iexact Hctx
    isplitl [T1_0]; · iexact T1_0
    isplitl [HR1_0]; · iexact HR1_0
    isplitl [E2_0]; · iexact E2_0
    iexact HO
  iintro ⟨T1_0, G1_0, R2_0, HO⟩
  iapply (step_send m K c 2 0 _ _ (dev16_eq c) (dev17_eq c) [(1, 2), (2, 1), (1, 3), (2, 2), (2, 3)]) $$ [R2_0 P2_0 HS2_0 HO]
  · isplitr; · iexact Hctx
    isplitl [R2_0]; · iexact R2_0
    isplitl [P2_0]; · iexact P2_0
    isplitl [HS2_0]; · iexact HS2_0
    iexact HO
  iintro ⟨T2_0, HO⟩
  iapply (step_woWait m K c [(1, 2), (2, 1), (1, 3), (2, 2), (2, 3)]) $$ [HWfl HO]
  · isplitr; · iexact Hctx
    isplitl [HWfl]; · iexact HWfl
    iexact HO
  iintro ⟨Hwo, HO⟩
  iapply (step_merge m K c 0 1 rfl 2 rfl 2 [(1, 2), (2, 1), (1, 3), (2, 2), (2, 3)] (by decide)) $$ [T0_2 HR0_2 E1_2 HO]
  · isplitr; · iexact Hctx
    isplitl [T0_2]; · iexact T0_2
    isplitl [HR0_2]; · iexact HR0_2
    isplitl [E1_2]; · iexact E1_2
    iexact HO
  iintro ⟨T0_2, G0_2, R1_2, HO⟩
  iapply (step_send m K c 1 2 _ _ (dev18_eq c) (dev19_eq c) [(2, 1), (1, 3), (2, 2), (2, 3)]) $$ [R1_2 P1_2 HS1_2 HO]
  · isplitr; · iexact Hctx
    isplitl [R1_2]; · iexact R1_2
    isplitl [P1_2]; · iexact P1_2
    isplitl [HS1_2]; · iexact HS1_2
    iexact HO
  iintro ⟨T1_2, HO⟩
  iapply (step_merge m K c 1 2 rfl 4 rfl 1 [(2, 1), (1, 3), (2, 2), (2, 3)] (by decide)) $$ [T1_1 HR1_1 E2_1 HO]
  · isplitr; · iexact Hctx
    isplitl [T1_1]; · iexact T1_1
    isplitl [HR1_1]; · iexact HR1_1
    isplitl [E2_1]; · iexact E2_1
    iexact HO
  iintro ⟨T1_1, G1_1, R2_1, HO⟩
  iapply (step_send m K c 2 1 _ _ (dev20_eq c) (dev21_eq c) [(1, 3), (2, 2), (2, 3)]) $$ [R2_1 P2_1 HS2_1 HO]
  · isplitr; · iexact Hctx
    isplitl [R2_1]; · iexact R2_1
    isplitl [P2_1]; · iexact P2_1
    isplitl [HS2_1]; · iexact HS2_1
    iexact HO
  iintro ⟨T2_1, HO⟩
  iapply (step_proj m K c 0 [(1, 3), (2, 2), (2, 3)] (by decide)) $$ [T2_0 HR2_0 Hwo HO]
  · isplitr; · iexact Hctx
    isplitl [T2_0]; · iexact T2_0
    isplitl [HR2_0]; · iexact HR2_0
    isplitl [Hwo]; · iexact Hwo
    iexact HO
  iintro ⟨T2_0, G2_0, Hwo, HO⟩
  iapply (step_merge m K c 0 1 rfl 2 rfl 3 [(1, 3), (2, 2), (2, 3)] (by decide)) $$ [T0_3 HR0_3 E1_3 HO]
  · isplitr; · iexact Hctx
    isplitl [T0_3]; · iexact T0_3
    isplitl [HR0_3]; · iexact HR0_3
    isplitl [E1_3]; · iexact E1_3
    iexact HO
  iintro ⟨T0_3, G0_3, R1_3, HO⟩
  iapply (step_send m K c 1 3 _ _ (dev22_eq c) (dev23_eq c) [(2, 2), (2, 3)]) $$ [R1_3 P1_3 HS1_3 HO]
  · isplitr; · iexact Hctx
    isplitl [R1_3]; · iexact R1_3
    isplitl [P1_3]; · iexact P1_3
    isplitl [HS1_3]; · iexact HS1_3
    iexact HO
  iintro ⟨T1_3, HO⟩
  iapply (step_merge m K c 1 2 rfl 4 rfl 2 [(2, 2), (2, 3)] (by decide)) $$ [T1_2 HR1_2 E2_2 HO]
  · isplitr; · iexact Hctx
    isplitl [T1_2]; · iexact T1_2
    isplitl [HR1_2]; · iexact HR1_2
    isplitl [E2_2]; · iexact E2_2
    iexact HO
  iintro ⟨T1_2, G1_2, R2_2, HO⟩
  iapply (step_send m K c 2 2 _ _ (dev24_eq c) (dev25_eq c) [(2, 3)]) $$ [R2_2 P2_2 HS2_2 HO]
  · isplitr; · iexact Hctx
    isplitl [R2_2]; · iexact R2_2
    isplitl [P2_2]; · iexact P2_2
    isplitl [HS2_2]; · iexact HS2_2
    iexact HO
  iintro ⟨T2_2, HO⟩
  iapply (step_proj m K c 1 [(2, 3)] (by decide)) $$ [T2_1 HR2_1 Hwo HO]
  · isplitr; · iexact Hctx
    isplitl [T2_1]; · iexact T2_1
    isplitl [HR2_1]; · iexact HR2_1
    isplitl [Hwo]; · iexact Hwo
    iexact HO
  iintro ⟨T2_1, G2_1, Hwo, HO⟩
  iapply (step_merge m K c 1 2 rfl 4 rfl 3 [(2, 3)] (by decide)) $$ [T1_3 HR1_3 E2_3 HO]
  · isplitr; · iexact Hctx
    isplitl [T1_3]; · iexact T1_3
    isplitl [HR1_3]; · iexact HR1_3
    isplitl [E2_3]; · iexact E2_3
    iexact HO
  iintro ⟨T1_3, G1_3, R2_3, HO⟩
  iapply (step_send m K c 2 3 _ _ (dev26_eq c) (dev27_eq c) []) $$ [R2_3 P2_3 HS2_3 HO]
  · isplitr; · iexact Hctx
    isplitl [R2_3]; · iexact R2_3
    isplitl [P2_3]; · iexact P2_3
    isplitl [HS2_3]; · iexact HS2_3
    iexact HO
  iintro ⟨T2_3, HO⟩
  iapply (step_proj m K c 2 [] (by decide)) $$ [T2_2 HR2_2 Hwo HO]
  · isplitr; · iexact Hctx
    isplitl [T2_2]; · iexact T2_2
    isplitl [HR2_2]; · iexact HR2_2
    isplitl [Hwo]; · iexact Hwo
    iexact HO
  iintro ⟨T2_2, G2_2, Hwo, HO⟩
  iapply (step_proj m K c 3 [] (by decide)) $$ [T2_3 HR2_3 Hwo HO]
  · isplitr; · iexact Hctx
    isplitl [T2_3]; · iexact T2_3
    isplitl [HR2_3]; · iexact HR2_3
    isplitl [Hwo]; · iexact Hwo
    iexact HO
  iintro ⟨T2_3, G2_3, Hwo, HO⟩
  iapply (step_outStore c _) $$ Hout
  iintro Hout
  iapply (step_gone m K c 0 0) $$ [T0_0 HO]
  · isplitr; · iexact Hctx
    isplitl [T0_0]; · iexact T0_0
    iexact HO
  iintro ⟨T0_0, HO⟩
  iapply (step_gone m K c 0 1) $$ [T0_1 HO]
  · isplitr; · iexact Hctx
    isplitl [T0_1]; · iexact T0_1
    iexact HO
  iintro ⟨T0_1, HO⟩
  iapply (step_gone m K c 0 2) $$ [T0_2 HO]
  · isplitr; · iexact Hctx
    isplitl [T0_2]; · iexact T0_2
    iexact HO
  iintro ⟨T0_2, HO⟩
  iapply (step_gone m K c 0 3) $$ [T0_3 HO]
  · isplitr; · iexact Hctx
    isplitl [T0_3]; · iexact T0_3
    iexact HO
  iintro ⟨T0_3, HO⟩
  iapply (step_gone m K c 1 0) $$ [T1_0 HO]
  · isplitr; · iexact Hctx
    isplitl [T1_0]; · iexact T1_0
    iexact HO
  iintro ⟨T1_0, HO⟩
  iapply (step_gone m K c 1 1) $$ [T1_1 HO]
  · isplitr; · iexact Hctx
    isplitl [T1_1]; · iexact T1_1
    iexact HO
  iintro ⟨T1_1, HO⟩
  iapply (step_gone m K c 1 2) $$ [T1_2 HO]
  · isplitr; · iexact Hctx
    isplitl [T1_2]; · iexact T1_2
    iexact HO
  iintro ⟨T1_2, HO⟩
  iapply (step_gone m K c 1 3) $$ [T1_3 HO]
  · isplitr; · iexact Hctx
    isplitl [T1_3]; · iexact T1_3
    iexact HO
  iintro ⟨T1_3, HO⟩
  iapply (step_gone m K c 2 0) $$ [T2_0 HO]
  · isplitr; · iexact Hctx
    isplitl [T2_0]; · iexact T2_0
    iexact HO
  iintro ⟨T2_0, HO⟩
  iapply (step_gone m K c 2 1) $$ [T2_1 HO]
  · isplitr; · iexact Hctx
    isplitl [T2_1]; · iexact T2_1
    iexact HO
  iintro ⟨T2_1, HO⟩
  iapply (step_gone m K c 2 2) $$ [T2_2 HO]
  · isplitr; · iexact Hctx
    isplitl [T2_2]; · iexact T2_2
    iexact HO
  iintro ⟨T2_2, HO⟩
  rw [← bind_pure (waitSend 2 3)]
  iapply (step_gone m K c 2 3) $$ [T2_3 HO]
  · isplitr; · iexact Hctx
    isplitl [T2_3]; · iexact T2_3
    iexact HO
  iintro ⟨T2_3, HO⟩
  ihave Hrel := (kvHeld_release m c 4 0) $$ Hh4
  icases Hrel with ⟨HK4, HF0⟩
  ihave Hrel := (kvHeld_release m c 5 1) $$ Hh5
  icases Hrel with ⟨HK5, HF1⟩
  ihave Hrel := (kvHeld_release m c 6 2) $$ Hh6
  icases Hrel with ⟨HK6, HF2⟩
  ihave Hrel := (kvHeld_release m c 7 3) $$ Hh7
  icases Hrel with ⟨HK7, HF3⟩
  rw [Prog.pure_eq_ret]; unfold wpK; rw [wp_ret]; imodintro
  iapply Hend
  unfold bodyOut
  simp only [bigSep_three, bigSep_four, bigSep_eight]
  isplitl [T0_0 T0_1 T0_2 T0_3 T1_0 T1_1 T1_2 T1_3 T2_0 T2_1 T2_2 T2_3]
  · isplitl [T0_0 T0_1 T0_2 T0_3]
    · isplitl [T0_0]; · iexact T0_0
      isplitl [T0_1]; · iexact T0_1
      isplitl [T0_2]; · iexact T0_2
      iexact T0_3
    isplitl [T1_0 T1_1 T1_2 T1_3]
    · isplitl [T1_0]; · iexact T1_0
      isplitl [T1_1]; · iexact T1_1
      isplitl [T1_2]; · iexact T1_2
      iexact T1_3
    isplitl [T2_0]; · iexact T2_0
    isplitl [T2_1]; · iexact T2_1
    isplitl [T2_2]; · iexact T2_2
    iexact T2_3
  isplitl [G0_0 G0_1 G0_2 G0_3 G1_0 G1_1 G1_2 G1_3 G2_0 G2_1 G2_2 G2_3]
  · isplitl [G0_0 G0_1 G0_2 G0_3]
    · isplitl [G0_0]; · iexact G0_0
      isplitl [G0_1]; · iexact G0_1
      isplitl [G0_2]; · iexact G0_2
      iexact G0_3
    isplitl [G1_0 G1_1 G1_2 G1_3]
    · isplitl [G1_0]; · iexact G1_0
      isplitl [G1_1]; · iexact G1_1
      isplitl [G1_2]; · iexact G1_2
      iexact G1_3
    isplitl [G2_0]; · iexact G2_0
    isplitl [G2_1]; · iexact G2_1
    isplitl [G2_2]; · iexact G2_2
    iexact G2_3
  isplitl [HzB]; · iexact HzB
  isplitl [HK0 HK1 HK2 HK3 HK4 HK5 HK6 HK7]
  · isplitl [HK0]; · iexact HK0
    isplitl [HK1]; · iexact HK1
    isplitl [HK2]; · iexact HK2
    isplitl [HK3]; · iexact HK3
    isplitl [HK4]; · iexact HK4
    isplitl [HK5]; · iexact HK5
    isplitl [HK6]; · iexact HK6
    iexact HK7
  isplitl [HF0 HF1 HF2 HF3]
  · isplitl [HF0]; · iexact HF0
    isplitl [HF1]; · iexact HF1
    isplitl [HF2]; · iexact HF2
    iexact HF3
  isplitl [Hwo]; · iexact Hwo
  isplitl [HO]; · iexact HO
  isplitl [Hx]; · iexact Hx
  isplitl [Hwq]; · iexact Hwq
  iexact Hout

end Cert.TreeProof

end
-- ==== Proof.Parts.lean ====
/-
# Buffers as their slots

The scratch buffers of the kernel are handed to the body slot by slot, and the keys and values head by head.  The slots of
each buffer are disjoint and cover it, so that the whole buffer is its slots, and back.
-/
module

public import proofs.«01_k».proof.Proof.Body

@[expose] public section

noncomputable section

namespace Cert.TreeProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The slots are disjoint and cover -/

theorem rKV_disj (s t : Fin 4) (h : s ≠ t) : Disjoint (rKV s).set (rKV t).set :=
  Rect.unit_disjoint (s := S4x4096x128) 0 (by
    have : s.val ≠ t.val := fun e => h (Fin.ext e)
    show s.val + 1 ≤ t.val ∨ t.val + 1 ≤ s.val
    omega)
theorem rArr_disj (s t : Fin 8) (h : s ≠ t) : Disjoint (rArr s).set (rArr t).set :=
  Rect.unit_disjoint (s := S4096x8x128) 1 (by
    have : s.val ≠ t.val := fun e => h (Fin.ext e)
    show s.val + 1 ≤ t.val ∨ t.val + 1 ≤ s.val
    omega)
theorem rO_disj (p q : Fin 6 × Fin 4) (h : p ≠ q) : Disjoint (rO p.1 p.2).set (rO q.1 q.2).set := by
  by_cases h1 : p.1 = q.1
  · refine Rect.unit_disjoint (s := S6x8x128x256) 1 ?_
    have : p.2.val ≠ q.2.val := fun e => h (Prod.ext h1 (Fin.ext e))
    show 2 * p.2.val + 2 ≤ 2 * q.2.val ∨ 2 * q.2.val + 2 ≤ 2 * p.2.val
    omega
  · refine Rect.unit_disjoint (s := S6x8x128x256) 0 ?_
    have : p.1.val ≠ q.1.val := fun e => h1 (Fin.ext e)
    show p.1.val + 1 ≤ q.1.val ∨ q.1.val + 1 ≤ p.1.val
    omega
theorem rS_disj (p q : Fin 6 × Fin 4) (h : p ≠ q) : Disjoint (rS p.1 p.2).set (rS q.1 q.2).set := by
  by_cases h1 : p.1 = q.1
  · refine Rect.unit_disjoint (s := S6x16x256) 1 ?_
    have : p.2.val ≠ q.2.val := fun e => h (Prod.ext h1 (Fin.ext e))
    show 4 * p.2.val + 4 ≤ 4 * q.2.val ∨ 4 * q.2.val + 4 ≤ 4 * p.2.val
    omega
  · refine Rect.unit_disjoint (s := S6x16x256) 0 ?_
    have : p.1.val ≠ q.1.val := fun e => h1 (Fin.ext e)
    show p.1.val + 1 ≤ q.1.val ∨ q.1.val + 1 ≤ p.1.val
    omega

theorem within_zero {n k : ℕ} (h : k < n) : 0 ≤ k ∧ k < 0 + n := ⟨Nat.zero_le _, by omega⟩

theorem rKV_cov : (Finset.univ : Finset (Fin 4)).biUnion (fun s => (rKV s).set) = Finset.univ :=
  Finset.eq_univ_iff_forall.mpr fun i => Finset.mem_biUnion.mpr ⟨⟨(i 0).val, (i 0).isLt⟩, Finset.mem_univ _,
    Rect.mem_set_unit.mpr fun a => by
      fin_cases a
      · exact ⟨Nat.le_refl _, Nat.lt_succ_self _⟩
      · exact within_zero (i 1).isLt
      · exact within_zero (i 2).isLt⟩
theorem rArr_cov : (Finset.univ : Finset (Fin 8)).biUnion (fun s => (rArr s).set) = Finset.univ :=
  Finset.eq_univ_iff_forall.mpr fun i => Finset.mem_biUnion.mpr ⟨⟨(i 1).val, (i 1).isLt⟩, Finset.mem_univ _,
    Rect.mem_set_unit.mpr fun a => by
      fin_cases a
      · exact within_zero (i 0).isLt
      · exact ⟨Nat.le_refl _, Nat.lt_succ_self _⟩
      · exact within_zero (i 2).isLt⟩
theorem rO_cov : (Finset.univ : Finset (Fin 6 × Fin 4)).biUnion (fun p => (rO p.1 p.2).set) = Finset.univ :=
  Finset.eq_univ_iff_forall.mpr fun i => by
    have h1 : (i 1).val < 8 := (i 1).isLt
    refine Finset.mem_biUnion.mpr ⟨(⟨(i 0).val, (i 0).isLt⟩, ⟨(i 1).val / 2, by omega⟩), Finset.mem_univ _,
      Rect.mem_set_unit.mpr fun a => ?_⟩
    fin_cases a
    · exact ⟨Nat.le_refl _, Nat.lt_succ_self _⟩
    · show 2 * ((i 1).val / 2) ≤ (i 1).val ∧ (i 1).val < 2 * ((i 1).val / 2) + 2
      omega
    · exact within_zero (i 2).isLt
    · exact within_zero (i 3).isLt
theorem rS_cov : (Finset.univ : Finset (Fin 6 × Fin 4)).biUnion (fun p => (rS p.1 p.2).set) = Finset.univ :=
  Finset.eq_univ_iff_forall.mpr fun i => by
    have h1 : (i 1).val < 16 := (i 1).isLt
    refine Finset.mem_biUnion.mpr ⟨(⟨(i 0).val, (i 0).isLt⟩, ⟨(i 1).val / 4, by omega⟩), Finset.mem_univ _,
      Rect.mem_set_unit.mpr fun a => ?_⟩
    fin_cases a
    · exact ⟨Nat.le_refl _, Nat.lt_succ_self _⟩
    · show 4 * ((i 1).val / 4) ≤ (i 1).val ∧ (i 1).val < 4 * ((i 1).val / 4) + 4
      omega
    · exact within_zero (i 2).isLt

/-! ## A buffer and its slots -/

omit [FloatOps F] [Named F] in
theorem eq_of_entails {P Q : sProp 𝕄} (h : P ⊢ Q) (h' : Q ⊢ P) : P = Q := BI.equiv_iff.mp ⟨h, h'⟩
omit [FloatOps F] [Named F] in
theorem family_mono {T : Type} [Fintype T] {Φ Ψ : T → sProp 𝕄} (h : ∀ t, Φ t ⊢ Ψ t) : bigSep Finset.univ Φ ⊢ bigSep Finset.univ Ψ :=
  bigSep_mono fun t _ => h t

section Family

variable {T : Type} [Fintype T] [DecidableEq T] {sp : Space} {sh : Shape} {e : EltTy} (M : Memref sig .tc sp sh e) (r : T → Rect sh)
  (hr : ∀ t a, (r t).stride a = 1) (hd : ∀ t t', t ≠ t' → Disjoint (r t).set (r t').set)
  (hcov : (Finset.univ : Finset T).biUnion (fun t => (r t).set) = Finset.univ)
include hd hcov

omit [FloatOps F] [Named F] in
/-- The elements of a buffer are those of its slots. -/
theorem set_slots : M.view.set = (Finset.univ : Finset T).biUnion fun t => (M.slice (r t) (hr t)).view.set := by
  ext i
  refine ⟨fun hi => ?_, fun hi => ?_⟩
  · obtain ⟨x, -, rfl⟩ := Finset.mem_map.mp hi
    have hx : x ∈ (Finset.univ : Finset T).biUnion (fun t => (r t).set) := by rw [hcov]; exact Finset.mem_univ x
    obtain ⟨t, -, ht⟩ := Finset.mem_biUnion.mp hx
    refine Finset.mem_biUnion.mpr ⟨t, Finset.mem_univ _, ?_⟩
    show _ ∈ (M.view.slice (r t)).set
    rw [View.set_slice]
    exact Finset.mem_map_of_mem _ ht
  · obtain ⟨t, -, ht⟩ := Finset.mem_biUnion.mp hi
    exact View.set_slice_subset _ _ ht

omit hcov in
theorem disj_slots (t t' : T) (h : t ≠ t') : Disjoint (M.slice (r t) (hr t)).view.set (M.slice (r t') (hr t')).view.set := by
  show Disjoint (M.view.slice (r t)).set (M.view.slice (r t')).set
  rw [View.set_slice, View.set_slice]
  exact (Finset.disjoint_map _).mpr (hd t t' h)

omit [FloatOps F] [Named F] in
/-- A buffer at given contents is each of its slots at those contents. -/
theorem slots_at (c : Dev nD) (g : M.view.ty.Contents (Elt F)) :
    (M.view.loc (c : Thread nD τ) ↦[M.view.set]{fullShare} g : sProp 𝕄)
      = bigSep Finset.univ fun t => ((M.slice (r t) (hr t)).view.loc (c : Thread nD τ) ↦[(M.slice (r t) (hr t)).view.set]{fullShare} g) := by
  rw [set_slots M r hr hd hcov]
  exact pointsTo_biUnion _ _ fun t _ t' _ h => disj_slots M r hr hd t t' h

omit [FloatOps F] [Named F] in
/-- A buffer at any contents is its slots at any contents; -/
theorem slots_split (c : Dev nD) (g : M.view.ty.Contents (Elt F)) :
    (M.view.loc (c : Thread nD τ) ↦[M.view.set]{fullShare} g : sProp 𝕄)
      ⊢ bigSep Finset.univ fun t => iprop(∃ X, owns (c : Thread nD τ) (M.slice (r t) (hr t)) fullShare X) := by
  rw [pointsTo_rects (c : Thread nD τ) M fullShare r hr hd hcov g]
  refine family_mono fun t => ?_
  iintro H
  iexists _
  iexact H

omit [FloatOps F] [Named F] in
/-- and back. -/
theorem slots_join [∀ e, Nonempty (Elt F e)] (c : Dev nD) :
    (bigSep Finset.univ fun t => iprop(∃ X, owns (c : Thread nD τ) (M.slice (r t) (hr t)) fullShare X))
      ⊢ (iprop(∃ g : M.view.ty.Contents (Elt F), M.view.loc (c : Thread nD τ) ↦[M.view.set]{fullShare} g) : sProp 𝕄) := by
  have h1 (t : T) : iprop(∃ X, owns (c : Thread nD τ) (M.slice (r t) (hr t)) fullShare X)
      ⊢ (iprop(∃ g : M.view.ty.Contents (Elt F), M.view.loc (c : Thread nD τ) ↦[(M.slice (r t) (hr t)).view.set]{fullShare} g) : sProp 𝕄) := by
    iintro ⟨%X, H⟩
    ihave H' := (show owns (c : Thread nD τ) (M.slice (r t) (hr t)) fullShare X
      ⊢ (iprop(∃ f, ⌜(M.slice (r t) (hr t)).view.read (Elt F) f = X⌝
          ∗ ((M.slice (r t) (hr t)).view.loc (c : Thread nD τ) ↦[(M.slice (r t) (hr t)).view.set]{fullShare} f)) : sProp 𝕄)
      from BI.Entails.refl _) $$ H
    icases H' with ⟨%f, %hf, H⟩
    iexists f
    iexact H
  haveI : Nonempty (M.view.ty.Contents (Elt F)) := ⟨fun _ => Classical.arbitrary _⟩
  refine (bigSep_mono fun t _ => h1 t).trans ?_
  refine (BI.bigSep_exists_pi Finset.univ fun (t : T) (g : M.view.ty.Contents (Elt F)) =>
    (M.view.loc (c : Thread nD τ) ↦[(M.slice (r t) (hr t)).view.set]{fullShare} g : sProp 𝕄)).trans ?_
  iintro ⟨%fs, H⟩
  ihave H' := (pointsTo_biUnion_join (ℓ := M.view.loc (c : Thread nD τ)) (q := fullShare) Finset.univ (fun t : T => (M.slice (r t) (hr t)).view.set) fs (Classical.arbitrary _)
    fun t _ t' _ h => disj_slots M r hr hd t t' h) $$ H
  icases H' with ⟨%g, -, H⟩
  iexists g
  rw [set_slots M r hr hd hcov]
  iexact H

end Family

/-! ## The rows of the exchange buffers -/

omit [FloatOps F] [Named F] in
theorem bigSep_rows (Φ : Fin 6 → sProp 𝕄) : bigSep Finset.univ Φ
    = iprop((bigSep Finset.univ fun r : Fin 3 => Φ (ownRow r)) ∗ bigSep Finset.univ fun r : Fin 3 => Φ (inRow r)) := by
  rw [bigSep_three, bigSep_three,
    show bigSep Finset.univ Φ = iprop(Φ (ownRow 0) ∗ Φ (inRow 0) ∗ Φ (ownRow 1) ∗ Φ (inRow 1) ∗ Φ (ownRow 2) ∗ Φ (inRow 2)) from
      bigSep_univ_eq_bigSepL [ownRow 0, inRow 0, ownRow 1, inRow 1, ownRow 2, inRow 2] (by decide) (by decide) Φ]
  refine eq_of_entails ?_ ?_
  · iintro ⟨H0, H1, H2, H3, H4, H5⟩
    isplitl [H0 H2 H4]
    · isplitl [H0]; · iexact H0
      isplitl [H2]; · iexact H2
      iexact H4
    · isplitl [H1]; · iexact H1
      isplitl [H3]; · iexact H3
      iexact H5
  · iintro ⟨⟨H0, H2, H4⟩, H1, H3, H5⟩
    isplitl [H0]; · iexact H0
    isplitl [H1]; · iexact H1
    isplitl [H2]; · iexact H2
    isplitl [H3]; · iexact H3
    isplitl [H4]; · iexact H4
    iexact H5

omit [FloatOps F] [Named F] in
/-- A slot of both exchange buffers, from a slot of each, and back. -/
theorem free_eq (c : Dev nD) (j : Fin 6) (k : Fin 4) : (free (F := F) c j k : sProp 𝕄)
    = iprop((∃ X, owns (c : Thread nD τ) (oSlot j k) fullShare X) ∗ (∃ X, owns (c : Thread nD τ) (sSlot j k) fullShare X)) := by
  unfold free slots
  refine eq_of_entails ?_ ?_
  · iintro ⟨%X, H1, H2⟩
    isplitl [H1]
    · iexists X.o; iexact H1
    · iexists X.s; iexact H2
  · iintro ⟨⟨%X, H1⟩, ⟨%Y, H2⟩⟩
    iexists (⟨X, Y⟩ : Chunk F)
    isplitl [H1]; · iexact H1
    iexact H2

omit [FloatOps F] [Named F] in
/-- All slots of the exchange buffers: a device's own rows and the rows its partners' chunks land in. -/
theorem slots_rows (c : Dev nD) :
    iprop((bigSep Finset.univ fun p : Fin 6 × Fin 4 => iprop(∃ X, owns (c : Thread nD τ) (oSlot p.1 p.2) fullShare X))
        ∗ bigSep Finset.univ fun p : Fin 6 × Fin 4 => iprop(∃ X, owns (c : Thread nD τ) (sSlot p.1 p.2) fullShare X))
      = (iprop((bigSep Finset.univ fun r : Fin 3 => bigSep Finset.univ fun k : Fin 4 => free (F := F) c (ownRow r) k)
        ∗ bigSep Finset.univ fun r : Fin 3 => bigSep Finset.univ fun k : Fin 4 => free (F := F) c (inRow r) k) : sProp 𝕄) := by
  rw [← bigSep_sep', bigSep_univ_prod]
  rw [← bigSep_rows (fun j => bigSep Finset.univ fun k : Fin 4 => free (F := F) c j k)]
  exact bigSep_congr fun j _ => bigSep_congr fun k _ => (free_eq c j k).symm

end Cert.TreeProof

end
-- ==== Proof.Ghost.lean ====
/-
# What the launch deals

The exchange protocol's cells are opened at launch on every device at once: each device's barrier and its send and receive
semaphores become invariants every device knows, and the tokens of the duties are dealt to the devices that pay them — a
barrier unit of round `r` and the receive semaphores of round `r` to the partner of that round.
-/
module

public import proofs.«01_k».proof.Proof.Parts

@[expose] public section

noncomputable section

namespace Cert.TreeProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Families over the exchange's semaphores -/

/-- A send (`false`) or receive (`true`) semaphore: round, chunk, part. -/
abbrev XI : Type := Bool × Fin 3 × Fin 4 × Fin 2

omit [FloatOps F] [Named F] in
theorem bigSep_two (Φ : Fin 2 → sProp 𝕄) : bigSep Finset.univ Φ = iprop(Φ 0 ∗ Φ 1) :=
  bigSep_univ_eq_bigSepL [0, 1] (by decide) (by decide) Φ
omit [FloatOps F] [Named F] in
theorem bigSep_sides (Φ : Bool → sProp 𝕄) : bigSep Finset.univ Φ = iprop(Φ false ∗ Φ true) :=
  bigSep_univ_eq_bigSepL [false, true] (by decide) (by decide) Φ
omit [FloatOps F] [Named F] in
theorem bigSep_side (Φ : Fin 3 × Fin 4 × Fin 2 → sProp 𝕄) : bigSep Finset.univ Φ
    = bigSep Finset.univ fun r : Fin 3 => bigSep Finset.univ fun k : Fin 4 => iprop(Φ (r, k, 0) ∗ Φ (r, k, 1)) := by
  rw [bigSep_univ_prod]
  refine bigSep_congr fun r _ => ?_
  rw [bigSep_univ_prod]
  exact bigSep_congr fun k _ => bigSep_two _
omit [FloatOps F] [Named F] in
theorem bigSep_XI (Φ : XI → sProp 𝕄) : bigSep Finset.univ Φ
    = iprop((bigSep Finset.univ fun r : Fin 3 => bigSep Finset.univ fun k : Fin 4 => iprop(Φ (false, r, k, 0) ∗ Φ (false, r, k, 1)))
      ∗ bigSep Finset.univ fun r : Fin 3 => bigSep Finset.univ fun k : Fin 4 => iprop(Φ (true, r, k, 0) ∗ Φ (true, r, k, 1))) := by
  rw [bigSep_univ_prod, bigSep_sides, bigSep_side, bigSep_side]
omit [FloatOps F] [Named F] in
theorem bigSep_either {A B : Type} [Fintype A] [Fintype B] (Φ : A ⊕ B → sProp 𝕄) :
    bigSep Finset.univ Φ = iprop(bigSep Finset.univ (fun a => Φ (.inl a)) ∗ bigSep Finset.univ (fun b => Φ (.inr b))) :=
  bigSep_univ_sum Φ
omit [FloatOps F] [Named F] in
theorem bigSep_CI (Φ : CI → sProp 𝕄) : bigSep Finset.univ Φ = iprop(Φ none ∗ bigSep Finset.univ fun x : XI => Φ (some x)) := by
  rw [bigSep_univ_equiv (Equiv.optionEquivSumPUnit.{0} XI).symm Φ, bigSep_either]
  refine eq_of_entails ?_ ?_
  · iintro ⟨H1, H2⟩
    isplitl [H2]
    · iapply (show bigSep Finset.univ (fun b : PUnit.{1} => Φ ((Equiv.optionEquivSumPUnit.{0} XI).symm (.inr b))) ⊢ Φ none from
        bigSep_elim (Finset.mem_univ PUnit.unit))
      iexact H2
    · iexact H1
  · iintro ⟨H1, H2⟩
    isplitl [H2]
    · iexact H2
    · rw [show bigSep Finset.univ (fun b : PUnit.{1} => Φ ((Equiv.optionEquivSumPUnit.{0} XI).symm (.inr b))) = Φ none from
        bigSep_univ_eq_bigSepL [PUnit.unit] (by decide) (by decide) _]
      iexact H1

/-! ## The kernel's own semaphores -/

/-- The kernel's own semaphores: eight for the copies of keys and values, one for the output projection, and the exchange's. -/
abbrev OI : Type := (Fin 4 × Fin 2) ⊕ (Unit ⊕ XI)
abbrev osem : OI → SemLoc sig
  | .inl (s, b) => .dma (cpSem s b)
  | .inr (.inl _) => .dma woSem
  | .inr (.inr x) => csem (some x)

theorem csem_injective : Function.Injective csem := by
  intro a b h
  have hd (x : XI) : ∃ q, csem (some x) = .dma q ∧ decode q = some x := by
    rcases x with ⟨_ | _, r, k, b⟩
    · exact ⟨_, rfl, decode_send r k b⟩
    · exact ⟨_, rfl, decode_recv r k b⟩
  cases a with
  | none => cases b with
    | none => rfl
    | some y => obtain ⟨q, hq, -⟩ := hd y; rw [hq] at h; cases h
  | some x => cases b with
    | none => obtain ⟨q, hq, -⟩ := hd x; rw [hq] at h; cases h
    | some y =>
      obtain ⟨q, hq, hx⟩ := hd x
      obtain ⟨q', hq', hy⟩ := hd y
      rw [hq, hq'] at h
      cases h
      rw [hx] at hy
      exact hy

theorem kcell_injective : Function.Injective (kcell : Dev nD × CI → GSem nD τ sig) := by
  rintro ⟨c, k⟩ ⟨c', k'⟩ h
  have h1 : c = c' := congrArg (fun g : GSem nD τ sig => g.1.1) h
  have h2 : k = k' := csem_injective (congrArg Prod.snd h)
  subst h1; subst h2; rfl

theorem ownSemFacts : Pipeline.OwnSemFacts cfg0.spec osem := by decide

/-! ## The cells and the tokens minted at launch -/

def exCells : Finset (GSem nD τ sig) := Finset.univ.map ⟨kcell, kcell_injective⟩

/-- A device's own cells' duties: three of its barrier, one of each of its send and receive semaphores. -/
abbrev TI : Type := Fin 3 ⊕ XI
abbrev tokOf (ct : Dev nD × TI) : GSem nD τ sig × ℕ × Fin 3 := match ct.2 with
  | .inl d => (kcell (ct.1, none), 0, d)
  | .inr x => (kcell (ct.1, some x), 0, 0)
theorem tokOf_injective : Function.Injective tokOf := by
  rintro ⟨c, t⟩ ⟨c', t'⟩ h
  rcases t with d | x <;> rcases t' with d' | x'
  · have h1 := kcell_injective (congrArg Prod.fst h)
    have h2 : d = d' := congrArg (fun z : GSem nD τ sig × ℕ × Fin 3 => z.2.2) h
    cases h1; cases h2; rfl
  · have h1 := kcell_injective (congrArg Prod.fst h); cases h1
  · have h1 := kcell_injective (congrArg Prod.fst h); cases h1
  · have h1 := kcell_injective (congrArg Prod.fst h); cases h1; rfl
def exToks : Finset (GSem nD τ sig × ℕ × Fin 3) := Finset.univ.map ⟨tokOf, tokOf_injective⟩

def u₀ : UU :=
  (initOf (Pipeline.cells cfgs cellOf_inj) (Pipeline.launchToks cfgs cellOf_inj), (initOf exCells exToks, 1))

/-- The tokens of a device's own cells. -/
def toks (c : Dev nD) : sProp 𝕄 :=
  iprop((bigSep Finset.univ fun d : Fin 3 => dutyTok ER (barCell c) 0 d) ∗ bigSep Finset.univ fun x : XI => dutyTok ER (kcell (c, some x)) 0 0)

variable (m : (ℓ : Loc nD τ sig) → Buf (Elt F) ℓ)

/-- What each device is dealt of the launch's ghost state. -/
def G (c : Dev nD) : sProp 𝕄 :=
  iprop((bigSep Finset.univ fun k : CI => roundState ER (Rd m) (kcell (c, k)) 0)
    ∗ (bigSep Finset.univ fun k : CI => iprop(atPos ER (kcell (c, k)) 0 ∅ 0 ∗ reached ER (kcell (c, k)) 0)) ∗ toks c)

theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : CI => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_univ_sum]; rfl
  iintro HX
  imod (Rounds.fund ER (Rd m) exCells exToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Opening the cells -/

/-- The semaphores of a device's own copies, at zero. -/
def localSems (c : Dev nD) : sProp 𝕄 :=
  iprop((bigSep Finset.univ fun s : Fin 4 => iprop(semVal ((c : Thread nD τ), .dma (cpSem s 0)) 0 ∗ semVal ((c : Thread nD τ), .dma (cpSem s 1)) 0))
    ∗ semVal ((c : Thread nD τ), .dma woSem) 0)
/-- The exchange's semaphores, at zero. -/
def exSems (c : Dev nD) : sProp 𝕄 := bigSep Finset.univ fun x : XI => semVal (kcell (c, some x)) 0

omit [FloatOps F] [Named F] in
theorem ownSems0_eq (c : Dev nD) : (Pipeline.ownSems0 (Ix := Unit) (Name := ℕ) (U := UU) (Lvl := ℕ) (Val := Elt F) (τ := τ) osem c : sProp 𝕄)
    = iprop(localSems c ∗ exSems c) := by
  unfold Pipeline.ownSems0 localSems exSems
  rw [bigSep_either, bigSep_either, bigSep_univ_prod]
  refine eq_of_entails ?_ ?_
  · iintro ⟨H1, H2, H3⟩
    isplitr [H3]
    · isplitl [H1]
      · iapply (Entails.of_eq (bigSep_congr fun (s : Fin 4) _ => bigSep_two (F := F) fun b => semVal ((c : Thread nD τ), .dma (cpSem s b)) 0))
        iexact H1
      · iapply (show bigSep Finset.univ (fun b : Unit => (semVal ((c : Thread nD τ), osem (.inr (.inl b))) 0 : sProp 𝕄)) ⊢ semVal ((c : Thread nD τ), .dma woSem) 0 from
          bigSep_elim (Finset.mem_univ ()))
        iexact H2
    · iexact H3
  · iintro ⟨⟨H1, H2⟩, H3⟩
    isplitl [H1]
    · iapply (Entails.of_eq (bigSep_congr fun (s : Fin 4) _ => (bigSep_two (F := F) fun b => semVal ((c : Thread nD τ), .dma (cpSem s b)) 0).symm))
      iexact H1
    isplitl [H2]
    · rw [show bigSep Finset.univ (fun b : Unit => (semVal ((c : Thread nD τ), osem (.inr (.inl b))) 0 : sProp 𝕄)) = semVal ((c : Thread nD τ), .dma woSem) 0 from
        bigSep_univ_eq_bigSepL [()] (by decide) (by decide) _]
      iexact H2
    · iexact H3
omit [FloatOps F] [Named F] in
theorem unscopedSems0_eq (c : Dev nD) : (unscopedSems0 c : sProp 𝕄) = semVal (barCell c) 0 := by
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => iprop(∃ κ : ℕ, cellInv ER (Rd m) κ (kcell (c, k))))
          ∗ (bigSep Finset.univ fun k : CI => iprop(atPos ER (kcell (c, k)) 0 ∅ 0 ∗ reached ER (kcell (c, k)) 0)) ∗ toks c ∗ localSems c) := by
  have hv : iprop(semVal (barCell c) 0 ∗ exSems c) ⊢ (bigSep Finset.univ fun k : CI => semVal (kcell (c, k)) 0 : sProp 𝕄) :=
    Entails.of_eq (bigSep_CI fun k : CI => semVal (kcell (c, k)) 0).symm
  rw [ownSems0_eq, unscopedSems0_eq]
  unfold G
  iintro ⟨⟨Hloc, Hex⟩, Hb, Hst, Hat, Htok⟩
  ihave Hv := hv $$ [Hb Hex]
  · isplitl [Hb] <;> iassumption
  imod (show iprop((bigSep Finset.univ fun k : CI => semVal (kcell (c, k)) 0) ∗ bigSep Finset.univ fun k : CI => roundState ER (Rd m) (kcell (c, k)) 0)
      ⊢ (|={Set.univ}=> bigSep Finset.univ fun k : CI => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

/-! ## Dealing the tokens -/

/-- What every device knows: the invariants, and that each cell's first round is open. -/
def records (K : Dev nD × CI → ℕ) : sProp 𝕄 :=
  iprop((bigSep Finset.univ fun ck : Dev nD × CI => cellInv ER (Rd m) (K ck) (kcell ck))
    ∗ bigSep Finset.univ fun ck : Dev nD × CI => reached ER (kcell ck) 0)

instance records_persistent (K : Dev nD × CI → ℕ) : BI.Persistent (records m K) := by unfold records; infer_instance

/-- A receive semaphore's position, both parts. -/
def recvAt (c : Dev nD) (r : Fin 3) (k : Fin 4) : sProp 𝕄 :=
  iprop(atPos ER (recvCell c r k 0) 0 ∅ 0 ∗ atPos ER (recvCell c r k 1) 0 ∅ 0)

/-- What is a device's alone: its cells' positions and the tokens of the duties it pays. -/
def linear (c : Dev nD) : sProp 𝕄 :=
  iprop((bigSep Finset.univ fun r : Fin 3 => dutyTok ER (barCell (peer r c)) 0 r) ∗ atPos ER (barCell c) 0 ∅ 0
    ∗ (bigSep Finset.univ fun r : Fin 3 => bigSep Finset.univ fun k : Fin 4 => sendRes c r k)
    ∗ (bigSep Finset.univ fun r : Fin 3 => bigSep Finset.univ fun k : Fin 4 => recvAt c r k) ∗ localSems c)

/-- What the launch's global step makes of the ghost state. -/
def G' (c : Dev nD) : sProp 𝕄 := iprop(∃ K, records m K ∗ linear c)

/-- The partner of a round, as a permutation of the devices. -/
def peerEquiv (r : Fin 3) : Dev nD ≃ Dev nD := ⟨peer r, peer r, peer_peer r, peer_peer r⟩

omit [FloatOps F] [Named F] in
/-- A family over devices and rounds may be summed at the partners. -/
theorem around (Φ : Dev nD → Fin 3 → sProp 𝕄) :
    (bigSep Finset.univ fun c : Dev nD => bigSep Finset.univ fun r : Fin 3 => Φ c r)
      = bigSep Finset.univ fun c : Dev nD => bigSep Finset.univ fun r : Fin 3 => Φ (peer r c) r := by
  rw [Pipeline.bigSep_univ_comm, Pipeline.bigSep_univ_comm (fun (c : Dev nD) (r : Fin 3) => Φ (peer r c) r)]
  exact bigSep_congr fun r _ => bigSep_univ_equiv (peerEquiv r) fun c => Φ c r

/-- The tokens a device pays with, apart from those of its own semaphores. -/
def tokS (c : Dev nD) (r : Fin 3) (k : Fin 4) : sProp 𝕄 :=
  iprop(dutyTok ER (sendCell c r k 0) 0 0 ∗ dutyTok ER (sendCell c r k 1) 0 0)
def tokR (c : Dev nD) (r : Fin 3) (k : Fin 4) : sProp 𝕄 :=
  iprop(dutyTok ER (recvCell c r k 0) 0 0 ∗ dutyTok ER (recvCell c r k 1) 0 0)
def sendAt (c : Dev nD) (r : Fin 3) (k : Fin 4) : sProp 𝕄 :=
  iprop(atPos ER (sendCell c r k 0) 0 ∅ 0 ∗ atPos ER (sendCell c r k 1) 0 ∅ 0)
def payToks (c : Dev nD) : sProp 𝕄 :=
  iprop((bigSep Finset.univ fun r : Fin 3 => dutyTok ER (barCell (peer r c)) 0 r)
    ∗ (bigSep Finset.univ fun r : Fin 3 => bigSep Finset.univ fun k : Fin 4 => tokS c r k)
    ∗ (bigSep Finset.univ fun r : Fin 3 => bigSep Finset.univ fun k : Fin 4 => tokR (peer r c) r k))

omit [FloatOps F] [Named F] in
theorem toks_around : (bigSep Finset.univ fun c : Dev nD => (toks c : sProp 𝕄)) ⊢ bigSep Finset.univ fun c : Dev nD => payToks c := by
  have h (c : Dev nD) : (toks c : sProp 𝕄) = iprop((bigSep Finset.univ fun d : Fin 3 => dutyTok ER (barCell c) 0 d)
      ∗ (bigSep Finset.univ fun r : Fin 3 => bigSep Finset.univ fun k : Fin 4 => tokS c r k)
      ∗ (bigSep Finset.univ fun r : Fin 3 => bigSep Finset.univ fun k : Fin 4 => tokR c r k)) := by
    unfold toks; rw [bigSep_XI]; rfl
  rw [bigSep_congr fun c _ => h c]
  unfold payToks
  rw [bigSep_sep', bigSep_sep', bigSep_sep', bigSep_sep', around fun c r => dutyTok ER (barCell c) 0 r,
    around fun c r => bigSep Finset.univ fun k : Fin 4 => tokR c r k]

omit [FloatOps F] [Named F] in
theorem with_persistent {R : sProp 𝕄} [BI.Persistent R] {Φ Ψ : Dev nD → sProp 𝕄}
    (h : ∀ c, iprop(R ∗ Φ c) ⊢ Ψ c) : iprop(R ∗ bigSep Finset.univ Φ) ⊢ bigSep Finset.univ Ψ :=
  (sep_mono_left (BI.bigSep_of_persistent Finset.univ R)).trans (by rw [← bigSep_sep']; exact bigSep_mono fun c _ => h c)

omit [FloatOps F] [Named F] in
/-- A device's positions, tokens and local semaphores are what is its alone. -/
theorem linear_intro (c : Dev nD) :
    iprop((bigSep Finset.univ fun k : CI => atPos ER (kcell (c, k)) 0 ∅ 0) ∗ payToks c ∗ localSems c) ⊢ (linear c : sProp 𝕄) := by
  have hs : (bigSep Finset.univ fun r : Fin 3 => bigSep Finset.univ fun k : Fin 4 => (sendRes c r k : sProp 𝕄))
      = iprop((bigSep Finset.univ fun r : Fin 3 => bigSep Finset.univ fun k : Fin 4 => sendAt c r k)
        ∗ (bigSep Finset.univ fun r : Fin 3 => bigSep Finset.univ fun k : Fin 4 => tokS c r k)
        ∗ (bigSep Finset.univ fun r : Fin 3 => bigSep Finset.univ fun k : Fin 4 => tokR (peer r c) r k)) := by
    rw [← bigSep_sep', ← bigSep_sep']
    refine bigSep_congr fun r _ => ?_
    rw [← bigSep_sep', ← bigSep_sep']
    refine bigSep_congr fun k _ => ?_
    unfold sendRes sendAt tokS tokR
    refine eq_of_entails ?_ ?_
    · iintro ⟨H1, H2, H3, H4, H5, H6⟩
      isplitl [H1 H2]
      · isplitl [H1] <;> iassumption
      isplitl [H3 H4]
      · isplitl [H3] <;> iassumption
      isplitl [H5] <;> iassumption
    · iintro ⟨⟨H1, H2⟩, ⟨H3, H4⟩, H5, H6⟩
      isplitl [H1]; · iexact H1
      isplitl [H2]; · iexact H2
      isplitl [H3]; · iexact H3
      isplitl [H4]; · iexact H4
      isplitl [H5] <;> iassumption
  have ha : (bigSep Finset.univ fun k : CI => (atPos ER (kcell (c, k)) 0 ∅ 0 : sProp 𝕄))
      = iprop(atPos ER (barCell c) 0 ∅ 0 ∗ (bigSep Finset.univ fun r : Fin 3 => bigSep Finset.univ fun k : Fin 4 => sendAt c r k)
        ∗ (bigSep Finset.univ fun r : Fin 3 => bigSep Finset.univ fun k : Fin 4 => recvAt c r k)) := by
    rw [bigSep_CI, bigSep_XI]; rfl
  unfold linear payToks
  rw [hs, ha]
  iintro ⟨⟨Hb, Hsa, Hra⟩, ⟨Ht, Hts, Htr⟩, Hl⟩
  isplitl [Ht]; · iexact Ht
  isplitl [Hb]; · iexact Hb
  isplitl [Hsa Hts Htr]
  · isplitl [Hsa]; · iexact Hsa
    isplitl [Hts] <;> iassumption
  isplitl [Hra] <;> iassumption

theorem regroup :
    (bigSep Finset.univ fun c : Dev nD => iprop((bigSep Finset.univ fun k : CI => iprop(∃ κ : ℕ, cellInv ER (Rd m) κ (kcell (c, k))))
          ∗ (bigSep Finset.univ fun k : CI => iprop(atPos ER (kcell (c, k)) 0 ∅ 0 ∗ reached ER (kcell (c, k)) 0)) ∗ toks c ∗ localSems c) : sProp 𝕄)
      ⊢ bigSep Finset.univ (G' m) := by
  rw [bigSep_sep', bigSep_sep', bigSep_sep', ← bigSep_univ_prod (fun ck : Dev nD × CI => iprop(∃ κ : ℕ, cellInv ER (Rd m) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok, Hloc⟩
  ihave HK := (BI.bigSep_exists_pi Finset.univ (fun (ck : Dev nD × CI) (κ : ℕ) => (cellInv ER (Rd m) κ (kcell ck) : sProp 𝕄))) $$ HI
  icases HK with ⟨%K, #HI⟩
  ihave Htk := (toks_around (F := F)) $$ Htok
  iapply (with_persistent (R := records m K) (Φ := linear) fun c => show iprop(records m K ∗ linear c) ⊢ G' m c from by
    unfold G'
    iintro H
    iexists K
    iexact H)
  isplitr
  · unfold records; isplitl; · iexact HI
    iexact HR
  · iapply ((Entails.of_eq (by rw [bigSep_sep', bigSep_sep'])).trans (family_mono fun c : Dev nD => linear_intro (F := F) c))
    isplitl [Hat]; · iexact Hat
    isplitl [Htk]; · iexact Htk
    iexact Hloc

/-- The global step: every device's own semaphores and barrier at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.TreeProof

end
-- ==== Proof.Credits.lean ====
/-
# The credit each device starts with

What the devices owe at launch is what a device may wait for: three units on its barrier, one from each partner, and on each
of its receive semaphores the credit of the copy its partner of that round sends.
-/
module

public import proofs.«01_k».proof.Proof.Parts

@[expose] public section

noncomputable section

namespace Cert.TreeProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- What every device owes its partner of round `r` on the semaphore `s`. -/
def toPeer (r : Fin 3) (s : SemLoc sig) (n : ℕ) (d : Dev nD) : CellTallies nD τ sig Unit := tallyAt ((peer r d : Thread nD τ), s) () n

omit [FloatOps F] [Named F] in
theorem launch_toPeer (r : Fin 3) (s : SemLoc sig) (n : ℕ) (c : Dev nD) :
    tallyOn ((c : Thread nD τ), s) (launchCredit (Pipeline.owing (toPeer r s n)) 0 ((c : Thread nD τ), s))
      = (tallyAt ((c : Thread nD τ), s) () n : CellTallies nD τ sig Unit) := by
  have h (d : Dev nD) : toPeer r s n d ((c : Thread nD τ), s) () = if d = peer r c then n else 0 := by
    unfold toPeer
    rw [tallyAt_apply]
    by_cases hd : d = peer r c
    · subst hd; rw [peer_peer, if_pos ⟨rfl, rfl⟩, if_pos rfl]
    · rw [if_neg hd, if_neg fun h' => hd ?_]
      have h1 : c = peer r d := congrArg (fun g : GSem nD τ sig => g.1.1) h'.1
      rw [h1, peer_peer]
  unfold tallyAt; refine congrArg _ (Finsupp.ext fun u => ?_); cases u
  rw [Pipeline.launchCredit_owing, Finsupp.single_eq_same, Finset.sum_congr rfl fun d _ => h d, Finset.sum_ite_eq' Finset.univ (peer r c) fun _ => n,
    if_pos (Finset.mem_univ _)]

omit [FloatOps F] [Named F] in
theorem cred_toPeer (r : Fin 3) (s : SemLoc sig) (n : ℕ) (c : Dev nD) :
    (Pipeline.launchCred (toPeer r s n) c : sProp 𝕄) ⊢ cred (tallyAt ((c : Thread nD τ), s) () n) := by
  unfold Pipeline.launchCred
  rw [← launch_toPeer r s n c]
  exact bigSep_elim (Finset.mem_univ s)

/-- The credit of the chunks `l`. -/
def credL (c : Dev nD) : List (Fin 3 × Fin 4) → sProp 𝕄
  | [] => iprop(emp)
  | (r, k) :: l => iprop(credL c l ∗ cred (tallyAt (recvCell c r k 1) () (NC 1)) ∗ cred (tallyAt (recvCell c r k 0) () (NC 0)))

omit [FloatOps F] [Named F] in
theorem creds_due (c : Dev nD) (l : List (Fin 3 × Fin 4)) : (Pipeline.launchCred (fun d => dueL d l) c : sProp 𝕄) ⊢ credL c l := by
  induction l with
  | nil => unfold credL; iintro -; iempintro
  | cons p l ih =>
    obtain ⟨r, k⟩ := p
    have h : (Pipeline.launchCred (fun d => dueL d ((r, k) :: l)) c : sProp 𝕄)
        = iprop((Pipeline.launchCred (fun d => dueL d l) c ∗ Pipeline.launchCred (toPeer r (.dma (recvSem r k 1)) (NC 1)) c)
          ∗ Pipeline.launchCred (toPeer r (.dma (recvSem r k 0)) (NC 0)) c) := by
      rw [← Pipeline.launchCred_add, ← Pipeline.launchCred_add]; rfl
    rw [h]
    unfold credL
    iintro ⟨⟨H, H1⟩, H0⟩
    isplitl [H]; · iapply ih; iexact H
    isplitl [H1]
    · iapply (cred_toPeer (F := F) r (.dma (recvSem r k 1)) (NC 1) c); iexact H1
    · iapply (cred_toPeer (F := F) r (.dma (recvSem r k 0)) (NC 0) c); iexact H0

/-- The credit of a received chunk. -/
def recvCred (c : Dev nD) (r : Fin 3) (k : Fin 4) : sProp 𝕄 :=
  iprop(cred (tallyAt (recvCell c r k 0) () (NC 0)) ∗ cred (tallyAt (recvCell c r k 1) () (NC 1)))

omit [FloatOps F] [Named F] in
theorem credL_all (c : Dev nD) : (credL c sendOrder : sProp 𝕄)
    ⊢ bigSep Finset.univ fun r : Fin 3 => bigSep Finset.univ fun k : Fin 4 => recvCred c r k := by
  rw [bigSep_three, bigSep_four, bigSep_four, bigSep_four]
  unfold sendOrder recvCred
  simp only [credL]
  iintro ⟨⟨⟨⟨⟨⟨⟨⟨⟨⟨⟨⟨-, A23, B23⟩, A22, B22⟩, A13, B13⟩, A21, B21⟩, A12, B12⟩, A20, B20⟩, A03, B03⟩, A11, B11⟩, A02, B02⟩, A10, B10⟩, A01, B01⟩, A00, B00⟩
  isplitl [A00 B00 A01 B01 A02 B02 A03 B03]
  · isplitl [A00 B00]
    · isplitl [B00] <;> iassumption
    isplitl [A01 B01]
    · isplitl [B01] <;> iassumption
    isplitl [A02 B02]
    · isplitl [B02] <;> iassumption
    isplitl [B03] <;> iassumption
  isplitl [A10 B10 A11 B11 A12 B12 A13 B13]
  · isplitl [A10 B10]
    · isplitl [B10] <;> iassumption
    isplitl [A11 B11]
    · isplitl [B11] <;> iassumption
    isplitl [A12 B12]
    · isplitl [B12] <;> iassumption
    isplitl [B13] <;> iassumption
  · isplitl [A20 B20]
    · isplitl [B20] <;> iassumption
    isplitl [A21 B21]
    · isplitl [B21] <;> iassumption
    isplitl [A22 B22]
    · isplitl [B22] <;> iassumption
    isplitl [B23] <;> iassumption

omit [FloatOps F] [Named F] in
theorem creds (c : Dev nD) : (Pipeline.launchCred O₀ c : sProp 𝕄)
    ⊢ iprop(cred (tallyAt (barCell c) () 3) ∗ bigSep Finset.univ fun r : Fin 3 => bigSep Finset.univ fun k : Fin 4 => recvCred c r k) := by
  have h : (Pipeline.launchCred O₀ c : sProp 𝕄)
      = iprop(((Pipeline.launchCred (fun d => dueL d sendOrder) c ∗ Pipeline.launchCred (toPeer 2 (.reg barS) 1) c)
        ∗ Pipeline.launchCred (toPeer 1 (.reg barS) 1) c) ∗ Pipeline.launchCred (toPeer 0 (.reg barS) 1) c) := by
    rw [← Pipeline.launchCred_add, ← Pipeline.launchCred_add, ← Pipeline.launchCred_add]; rfl
  have hb : (tallyAt (barCell c) () 3 : CellTallies nD τ sig Unit) = tallyAt (barCell c) () 1 + (tallyAt (barCell c) () 1 + tallyAt (barCell c) () 1) := by
    rw [tallyAt_add, tallyAt_add]
  rw [h, hb]
  iintro ⟨⟨⟨H, H2⟩, H1⟩, H0⟩
  isplitr [H]
  · iapply (cred_add _ _).2
    isplitl [H0]
    · iapply (cred_toPeer (F := F) 0 (.reg barS) 1 c); iexact H0
    · iapply (cred_add _ _).2
      isplitl [H1]
      · iapply (cred_toPeer (F := F) 1 (.reg barS) 1 c); iexact H1
      · iapply (cred_toPeer (F := F) 2 (.reg barS) 1 c); iexact H2
  · iapply (credL_all (F := F) c)
    iapply (creds_due (F := F) c sendOrder)
    iexact H

end Cert.TreeProof

end
-- ==== Proof.Hand.lean ====
/-
# From the launch to the body, and back

What the launch gives a device — its scratch buffers, its arguments, its semaphores and its share of the exchange's ghost
state — is what the body takes; and what the body leaves is what the end of the kernel asks for.
-/
module

public import proofs.«01_k».proof.Proof.Ghost
public import proofs.«01_k».proof.Proof.Credits

@[expose] public section

noncomputable section

namespace Cert.TreeProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-- A scratch buffer with any contents. -/
def anyAt (c : Dev nD) (b : Ref sig .tc) : sProp 𝕄 := iprop(∃ f : Buf (Elt F) ((c : Thread nD τ).loc b), ((c : Thread nD τ).loc b) ↦{fullShare} f)
/-- All scratch buffers. -/
def scratch (c : Dev nD) : sProp 𝕄 :=
  iprop(anyAt (F := F) c cc0_scratch0 ∗ anyAt c cc0_scratch1 ∗ anyAt c cc0_scratch2 ∗ anyAt c cc0_scratch3 ∗ anyAt c cc0_scratch4)

omit [FloatOps F] [Named F] in
theorem scratch_eq (c : Dev nD) : (Pipeline.scopedRest cfg0.spec c : sProp 𝕄) = scratch c := scopedRest0_eq c

/-- The keys, the values and the output projection, as the caller gave them. -/
def args (c : Dev nD) : sProp 𝕄 :=
  iprop(woSrc m c ∗ (((c : Thread nD τ).loc main_arg3) ↦{fullShare} m ((c : Thread nD τ).loc main_arg3))
    ∗ (((c : Thread nD τ).loc main_arg4) ↦{fullShare} m ((c : Thread nD τ).loc main_arg4)))

/-! ## Buffers -/

section Slots

variable {T : Type} [Fintype T] [DecidableEq T] (b : Ref sig .tc) (r : T → Rect b.ty.shape)
  (hr : ∀ t a, (r t).stride a = 1) (hd : ∀ t t', t ≠ t' → Disjoint (r t).set (r t').set)
  (hcov : (Finset.univ : Finset T).biUnion (fun t => (r t).set) = Finset.univ)
include hd hcov

omit [FloatOps F] [Named F] in
theorem any_split (c : Dev nD) : (anyAt c b : sProp 𝕄)
    ⊢ bigSep Finset.univ fun t => iprop(∃ X, owns (c : Thread nD τ) ((Memref.whole b).slice (r t) (hr t)) fullShare X) := by
  unfold anyAt
  iintro ⟨%f, H⟩
  iapply (slots_split (F := F) (Memref.whole b) r hr hd hcov c f)
  rw [show (Memref.whole b).view.set = Finset.univ from View.set_whole _]
  iexact H

omit [FloatOps F] [Named F] in
theorem any_join [∀ e, Nonempty (Elt F e)] (c : Dev nD) :
    (bigSep Finset.univ fun t => iprop(∃ X, owns (c : Thread nD τ) ((Memref.whole b).slice (r t) (hr t)) fullShare X))
      ⊢ (anyAt c b : sProp 𝕄) := by
  unfold anyAt
  iintro H
  ihave H' := (slots_join (F := F) (Memref.whole b) r hr hd hcov c) $$ H
  icases H' with ⟨%g, H⟩
  iexists g
  rw [show (Memref.whole b).view.set = Finset.univ from View.set_whole _]
  iexact H

omit [FloatOps F] [Named F] in
theorem whole_heads (c : Dev nD) (g : b.ty.Contents (Elt F)) : ((((c : Thread nD τ).loc b) ↦{fullShare} g) : sProp 𝕄)
    = bigSep Finset.univ fun t => (((Memref.whole b).slice (r t) (hr t)).view.loc (c : Thread nD τ)
        ↦[((Memref.whole b).slice (r t) (hr t)).view.set]{fullShare} g) := by
  rw [← slots_at (F := F) (Memref.whole b) r hr hd hcov c g]
  rw [show (Memref.whole b).view.set = Finset.univ from View.set_whole _]

end Slots

omit [FloatOps F] [Named F] in
theorem any_owns (c : Dev nD) (b : Ref sig .tc) : (anyAt c b : sProp 𝕄) ⊢ iprop(∃ X, owns (c : Thread nD τ) (Memref.whole b) fullShare X) := by
  unfold anyAt
  iintro ⟨%f, H⟩
  iexists f
  unfold owns
  iexists f
  isplitr; · ipureintro; rfl
  rw [show (Memref.whole b).view.set = Finset.univ from View.set_whole _]
  iexact H
omit [FloatOps F] [Named F] in
theorem owns_any (c : Dev nD) (b : Ref sig .tc) (X : b.ty.Contents (Elt F)) : (owns (c : Thread nD τ) (Memref.whole b) fullShare X : sProp 𝕄) ⊢ anyAt c b := by
  unfold anyAt owns
  iintro ⟨%f, -, H⟩
  iexists f
  rw [show (Memref.whole b).view.set = Finset.univ from View.set_whole _]
  iexact H

/-- The heads of the keys and values, and back. -/
theorem heads_eq (c : Dev nD) : (bigSep Finset.univ fun h : Fin 8 => kvSrc m c h)
    = iprop((((c : Thread nD τ).loc main_arg3) ↦{fullShare} m ((c : Thread nD τ).loc main_arg3))
      ∗ (((c : Thread nD τ).loc main_arg4) ↦{fullShare} m ((c : Thread nD τ).loc main_arg4))) := by
  rw [whole_heads (F := F) main_arg3 rArr (fun _ _ => rfl) rArr_disj rArr_cov c (m ((c : Thread nD τ).loc main_arg3)),
    whole_heads (F := F) main_arg4 rArr (fun _ _ => rfl) rArr_disj rArr_cov c (m ((c : Thread nD τ).loc main_arg4)), ← bigSep_sep']
  rfl

omit [FloatOps F] [Named F] in
theorem kvFree_eq (c : Dev nD) : (bigSep Finset.univ fun s : Fin 4 => (kvFree c s : sProp 𝕄))
    = iprop((bigSep Finset.univ fun s : Fin 4 => iprop(∃ X, owns (c : Thread nD τ) (kSl s) fullShare X))
      ∗ (bigSep Finset.univ fun s : Fin 4 => iprop(∃ X, owns (c : Thread nD τ) (vSl s) fullShare X))
      ∗ bigSep Finset.univ fun s : Fin 4 => iprop(semVal ((c : Thread nD τ), .dma (cpSem s 0)) 0 ∗ semVal ((c : Thread nD τ), .dma (cpSem s 1)) 0)) := by
  rw [← bigSep_sep', ← bigSep_sep']
  rfl

/-! ## Into the body -/

/-- What the body takes of a device's buffers, arguments and own semaphores. -/
theorem hand_in (c : Dev nD) : iprop(scratch c ∗ localSems c ∗ args m c)
    ⊢ iprop((bigSep Finset.univ fun r : Fin 3 => landing (F := F) c r)
      ∗ (bigSep Finset.univ fun r : Fin 3 => bigSep Finset.univ fun k : Fin 4 => free c (ownRow r) k)
      ∗ (bigSep Finset.univ fun h : Fin 8 => kvSrc m c h) ∗ (bigSep Finset.univ fun s : Fin 4 => kvFree c s)
      ∗ woSrc m c ∗ woFree c) := by
  rw [heads_eq, kvFree_eq]
  unfold scratch args localSems
  iintro ⟨⟨Hk, Hv, Hw, Ho, Hs⟩, ⟨Hcp, Hwo⟩, Ha2, Ha3, Ha4⟩
  ihave Hk := (any_split (F := F) cc0_scratch0 rKV (fun _ _ => rfl) rKV_disj rKV_cov c) $$ Hk
  ihave Hv := (any_split (F := F) cc0_scratch1 rKV (fun _ _ => rfl) rKV_disj rKV_cov c) $$ Hv
  ihave Hw := (any_owns (F := F) c cc0_scratch2) $$ Hw
  ihave Ho := (any_split (F := F) cc0_scratch3 (fun p : Fin 6 × Fin 4 => rO p.1 p.2) (fun _ _ => rfl) rO_disj rO_cov c) $$ Ho
  ihave Hs := (any_split (F := F) cc0_scratch4 (fun p : Fin 6 × Fin 4 => rS p.1 p.2) (fun _ _ => rfl) rS_disj rS_cov c) $$ Hs
  ihave Hos := (Entails.of_eq (slots_rows (F := F) c)) $$ [Ho Hs]
  · isplitl [Ho]; · iexact Ho
    iexact Hs
  icases Hos with ⟨Hown, Hin⟩
  isplitl [Hin]; · unfold landing; iexact Hin
  isplitl [Hown]; · iexact Hown
  isplitl [Ha3 Ha4]
  · isplitl [Ha3] <;> iassumption
  isplitl [Hk Hv Hcp]
  · isplitl [Hk]; · iexact Hk
    isplitl [Hv]; · iexact Hv
    iexact Hcp
  isplitl [Ha2]; · iexact Ha2
  unfold woFree
  isplitl [Hw]; · iexact Hw
  iexact Hwo

/-! ## Out of the body -/

omit [FloatOps F] [Named F] in
theorem exSems_eq (c : Dev nD) : (exSems c : sProp 𝕄)
    = iprop((bigSep Finset.univ fun r : Fin 3 => bigSep Finset.univ fun k : Fin 4 => iprop(semVal (sendCell c r k 0) 0 ∗ semVal (sendCell c r k 1) 0))
      ∗ bigSep Finset.univ fun r : Fin 3 => bigSep Finset.univ fun k : Fin 4 => iprop(semVal (recvCell c r k 0) 0 ∗ semVal (recvCell c r k 1) 0)) := by
  unfold exSems; rw [bigSep_XI]

theorem gone_free (c : Dev nD) : (bigSep Finset.univ fun r : Fin 3 => bigSep Finset.univ fun k : Fin 4 => gone m c r k)
    ⊢ iprop((bigSep Finset.univ fun r : Fin 3 => bigSep Finset.univ fun k : Fin 4 => free (F := F) c (ownRow r) k)
      ∗ bigSep Finset.univ fun r : Fin 3 => bigSep Finset.univ fun k : Fin 4 => iprop(semVal (sendCell c r k 0) 0 ∗ semVal (sendCell c r k 1) 0)) := by
  rw [← bigSep_sep']
  refine family_mono fun r => ?_
  rw [← bigSep_sep']
  refine family_mono fun k => ?_
  unfold gone free
  iintro ⟨H, Hz⟩
  isplitl [H]; · iexists _; iexact H
  iexact Hz

theorem got_free (c : Dev nD) : (bigSep Finset.univ fun r : Fin 3 => bigSep Finset.univ fun k : Fin 4 => got m c r k)
    ⊢ iprop((bigSep Finset.univ fun r : Fin 3 => bigSep Finset.univ fun k : Fin 4 => free (F := F) c (inRow r) k)
      ∗ bigSep Finset.univ fun r : Fin 3 => bigSep Finset.univ fun k : Fin 4 => iprop(semVal (recvCell c r k 0) 0 ∗ semVal (recvCell c r k 1) 0)) := by
  rw [← bigSep_sep']
  refine family_mono fun r => ?_
  rw [← bigSep_sep']
  refine family_mono fun k => ?_
  unfold got free
  iintro ⟨H, Hz⟩
  isplitl [H]; · iexists _; iexact H
  iexact Hz

/-- What the body leaves, as buffers, arguments and semaphores. -/
theorem hand_out [∀ e, Nonempty (Elt F e)] (c : Dev nD) :
    iprop((bigSep Finset.univ fun r : Fin 3 => bigSep Finset.univ fun k : Fin 4 => gone m c r k)
      ∗ (bigSep Finset.univ fun r : Fin 3 => bigSep Finset.univ fun k : Fin 4 => got m c r k)
      ∗ (bigSep Finset.univ fun h : Fin 8 => kvSrc m c h) ∗ (bigSep Finset.univ fun s : Fin 4 => kvFree c s) ∗ woHeld m c)
    ⊢ iprop(scratch c ∗ localSems c ∗ exSems c ∗ args m c) := by
  have hk : (bigSep Finset.univ fun s : Fin 4 => iprop(∃ X, owns (c : Thread nD τ) (kSl s) fullShare X)) ⊢ (anyAt c cc0_scratch0 : sProp 𝕄) :=
    any_join (F := F) cc0_scratch0 rKV (fun _ _ => rfl) rKV_disj rKV_cov c
  have hv : (bigSep Finset.univ fun s : Fin 4 => iprop(∃ X, owns (c : Thread nD τ) (vSl s) fullShare X)) ⊢ (anyAt c cc0_scratch1 : sProp 𝕄) :=
    any_join (F := F) cc0_scratch1 rKV (fun _ _ => rfl) rKV_disj rKV_cov c
  have ho : (bigSep Finset.univ fun p : Fin 6 × Fin 4 => iprop(∃ X, owns (c : Thread nD τ) (oSlot p.1 p.2) fullShare X)) ⊢ (anyAt c cc0_scratch3 : sProp 𝕄) :=
    any_join (F := F) cc0_scratch3 (fun p : Fin 6 × Fin 4 => rO p.1 p.2) (fun _ _ => rfl) rO_disj rO_cov c
  have hs : (bigSep Finset.univ fun p : Fin 6 × Fin 4 => iprop(∃ X, owns (c : Thread nD τ) (sSlot p.1 p.2) fullShare X)) ⊢ (anyAt c cc0_scratch4 : sProp 𝕄) :=
    any_join (F := F) cc0_scratch4 (fun p : Fin 6 × Fin 4 => rS p.1 p.2) (fun _ _ => rfl) rS_disj rS_cov c
  rw [heads_eq, kvFree_eq, exSems_eq]
  unfold scratch args localSems woHeld
  iintro ⟨Hg, Hr, ⟨Ha3, Ha4⟩, ⟨Hk, Hv, Hcp⟩, Hw, Ha2, Hwo⟩
  ihave Hg := (gone_free m c) $$ Hg
  icases Hg with ⟨Hown, Hzs⟩
  ihave Hr := (got_free m c) $$ Hr
  icases Hr with ⟨Hin, Hzr⟩
  ihave Hos := (Entails.of_eq (slots_rows (F := F) c).symm) $$ [Hown Hin]
  · isplitl [Hown] <;> iassumption
  icases Hos with ⟨Ho, Hs⟩
  ihave Hk := hk $$ Hk
  ihave Hv := hv $$ Hv
  ihave Hw := (owns_any (F := F) c cc0_scratch2 _) $$ Hw
  ihave Ho := ho $$ Ho
  ihave Hs := hs $$ Hs
  isplitl [Hk Hv Hw Ho Hs]
  · isplitl [Hk]; · iexact Hk
    isplitl [Hv]; · iexact Hv
    isplitl [Hw]; · iexact Hw
    isplitl [Ho]; · iexact Ho
    iexact Hs
  isplitl [Hcp Hwo]
  · isplitl [Hcp] <;> iassumption
  isplitl [Hzs Hzr]
  · isplitl [Hzs] <;> iassumption
  isplitl [Ha2]; · iexact Ha2
  isplitl [Ha3] <;> iassumption

end Cert.TreeProof

end
-- ==== Proof.BodyEq.lean ====
/-
# The printed body is the sequence of steps
-/
module

public import proofs.«01_k».proof.Proof.Blocks

@[expose] public section

noncomputable section

namespace Cert.TreeProof

open Cert.KernelIdeal Cert.KernelIdeal.Gen
open Idealize.ShloMosaic Idealize.SL.Sem

variable {F : FTy → Type} [FloatOps F] [Named F]

set_option maxRecDepth 65536 in
set_option maxHeartbeats 0 in
/-- The printed body on the launch's buffers is `bodyP`, by definitional unfolding. -/
theorem body_eq (h0 h1 h5) :
    cc0_body (F := F) (Memref.whole cc0_stg0_0) h0 (Memref.whole cc0_stg1_0) h1 (Memref.whole main_arg2) (Memref.isWhole_whole _)
      (Memref.whole main_arg3) (Memref.isWhole_whole _) (Memref.whole main_arg4) (Memref.isWhole_whole _) (Memref.whole cc0_stg2_0) h5
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) cc0_scratch5 cc0_scratch6 cc0_scratch7 cc0_scratch8
    = bodyP (F := F) := rfl

end Cert.TreeProof

end
-- ==== Proof.Run.lean ====
/-
# The run on the mesh

The body on each device, put under the launch of all eight: every weakly fair execution of the program terminates, every
device's result array holds the value computed by the steps, the arguments are unchanged, and every semaphore is at zero.
-/
module

public import proofs.«01_k».proof.Proof.Hand
public import proofs.«01_k».proof.Proof.BodyEq
public import proofs.«01_k».proof.Proof.Gen.KernelIdeal.Frame
public import Idealize.ShloMosaic.Lib.Pipeline.Kit
public import Idealize.ShloMosaic.Lib.Pipeline.CollectiveSegs

@[expose] public section

noncomputable section

namespace Cert.TreeProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The proof data of the one launch -/

/-- What a device starts with, its scratch buffers apart. -/
def start (c : Dev nD) : sProp 𝕄 :=
  iprop(G' m c ∗ (cred (tallyAt (barCell c) () 3) ∗ bigSep Finset.univ fun r : Fin 3 => bigSep Finset.univ fun k : Fin 4 => recvCred c r k)
    ∗ levAts L lv ∗ args m c)
def Φ₀ (c : Dev nD) : sProp 𝕄 := iprop(start m c ∗ scratch c)
/-- What it ends with. -/
def Φ₁ (c : Dev nD) : sProp 𝕄 := iprop(semVal (barCell c) 0 ∗ args m c ∗ (localSems c ∗ exSems c) ∗ scratch c)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wqstg m c
    | ⟨2, _⟩ => outOf m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev t₀ : Fin cfg0.N := t0_0

/-! ## The body's obligation -/

omit [FloatOps F] [Named F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer, as the launch states it. -/
def stgOf (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m c ∗ (dats m 0 c).owesAt () t₀.castSucc
    ∗ (∃ d, stgOf c cc0_stg0_0 ((dats m 0 c).before (0 : Fin 3) t₀ d))
    ∗ (∃ d, stgOf c cc0_stg1_0 ((dats m 0 c).before (1 : Fin 3) t₀ d))
    ∗ (∃ d, stgOf c cc0_stg2_0 ((dats m 0 c).before (2 : Fin 3) t₀ d)))
def bodyPost (c : Dev nD) : sProp 𝕄 :=
  iprop(Φ₁ m c ∗ (dats m 0 c).owesAt () t₀.succ
    ∗ stgOf c cc0_stg0_0 (xstg m c) ∗ stgOf c cc0_stg1_0 (wqstg m c) ∗ stgOf c cc0_stg2_0 (outOf m c))

theorem before_x (c : Dev nD) (d) : (dats m 0 c).before (0 : Fin 3) t₀ d = xstg m c := by
  unfold Dat.before; rw [if_pos (fetch0_0 t₀)]; rfl
theorem before_wq (c : Dev nD) (d) : (dats m 0 c).before (1 : Fin 3) t₀ d = wqstg m c := by
  unfold Dat.before; rw [if_pos (fetch0_1 t₀)]; rfl

/-- From what the launch states to what the body takes. -/
theorem body_in (c : Dev nD) : bodyPre m c ⊢ iprop(∃ K, bodyIn m K c) := by
  unfold bodyPre Φ₀ start G' linear stgOf
  iintro ⟨⟨⟨⟨%K, #HK, Hbt, HaB, HS, HRa, Hloc⟩, ⟨HcB, HcR⟩, #Hlev, Hargs⟩, Hscr⟩, Ho, ⟨%d0, %g0, %hg0, Hx⟩, ⟨%d1, %g1, %hg1, Hq⟩, ⟨%d2, %g2, %hg2, Hout⟩⟩
  rw [before_x] at hg0
  rw [before_wq] at hg1
  subst hg0; subst hg1
  unfold Dat.owesAt Pipeline.owesWithin
  icases Ho with ⟨%W, %hW, HO⟩
  ihave Hh := (hand_in m c) $$ [Hscr Hloc Hargs]
  · isplitl [Hscr]; · iexact Hscr
    isplitl [Hloc] <;> iassumption
  icases Hh with ⟨Hland, Hown, Hsrc, Hkv, Hws, Hwf⟩
  iexists K
  unfold bodyIn
  isplitr
  · unfold ctx
    isplitr
    · have h : records m K ⊢ iprop((bigSep Finset.univ fun ck : Dev nD × CI => cellInv ER (Rd m) (K ck) (kcell ck))
          ∗ bigSep Finset.univ fun ck : Dev nD × CI => reached ER (kcell ck) 0) := by unfold records; exact BI.Entails.refl _
      iapply h; iexact HK
    · iexact Hlev
  isplitl [Hbt]; · iexact Hbt
  isplitl [HcB]; · iexact HcB
  isplitl [HaB]; · iexact HaB
  isplitl [HS]; · iexact HS
  isplitl [HRa HcR]
  · have h : iprop((bigSep Finset.univ fun r : Fin 3 => bigSep Finset.univ fun k : Fin 4 => recvAt c r k)
        ∗ bigSep Finset.univ fun r : Fin 3 => bigSep Finset.univ fun k : Fin 4 => recvCred c r k)
        ⊢ (bigSep Finset.univ fun r : Fin 3 => bigSep Finset.univ fun k : Fin 4 => recvRes c r k : sProp 𝕄) := by
      rw [← bigSep_sep']
      refine family_mono fun r => ?_
      rw [← bigSep_sep']
      refine family_mono fun k => ?_
      unfold recvAt recvCred recvRes
      iintro ⟨⟨H1, H2⟩, H3, H4⟩
      isplitl [H1]; · iexact H1
      isplitl [H2]; · iexact H2
      isplitl [H3] <;> iassumption
    iapply h
    isplitl [HRa] <;> iassumption
  isplitl [Hland]; · iexact Hland
  isplitl [Hown]; · iexact Hown
  isplitl [Hsrc]; · iexact Hsrc
  isplitl [Hkv]; · iexact Hkv
  isplitl [Hws]; · iexact Hws
  isplitl [Hwf]; · iexact Hwf
  isplitl [HO]; · unfold owesX; iexists W; iexact HO
  isplitl [Hx]; · iexact Hx
  isplitl [Hq]; · iexact Hq
  iexists g2; iexact Hout

/-- From what the body leaves to what the launch asks for. -/
theorem body_out [∀ e, Nonempty (Elt F e)] (c : Dev nD) : bodyOut m c ⊢ bodyPost m c := by
  unfold bodyOut bodyPost Φ₁ Dat.owesAt Pipeline.owesWithin stgOf
  rw [show (dats m 0 c).owed t₀.succ = 0 from rfl]
  iintro ⟨Hgone, Hgot, HzB, Hsrc, Hkv, Hwo, HO, Hx, Hq, Hout⟩
  ihave Hh := (hand_out m c) $$ [Hgone Hgot Hsrc Hkv Hwo]
  · isplitl [Hgone]; · iexact Hgone
    isplitl [Hgot]; · iexact Hgot
    isplitl [Hsrc]; · iexact Hsrc
    isplitl [Hkv] <;> iassumption
  icases Hh with ⟨Hscr, Hloc, Hex, Hargs⟩
  isplitl [HzB Hscr Hloc Hex Hargs]
  · isplitl [HzB]; · iexact HzB
    isplitl [Hargs]; · iexact Hargs
    isplitl [Hloc Hex]
    · isplitl [Hloc] <;> iassumption
    iexact Hscr
  isplitl [HO]
  · ihave HO := (show owesX (F := F) c (dueL c []) ⊢ (iprop(∃ W, owes (c : Thread nD τ) 0 W) : sProp 𝕄) from BI.Entails.refl _) $$ HO
    icases HO with ⟨%W, HO⟩
    iexists W
    isplitr; · ipureintro; exact fun _ _ => Or.inl trivial
    iexact HO
  isplitl [Hx]
  · iexists _; isplitr; · (ipureintro; rfl)
    iexact Hx
  isplitl [Hq]
  · iexists _; isplitr; · (ipureintro; rfl)
    iexact Hq
  iexists _; isplitr; · (ipureintro; rfl)
  iexact Hout

set_option maxRecDepth 100000 in
theorem body_obligation [∀ e, Nonempty (Elt F e)] (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ wpK c
    (cc0_body (F := F) (Memref.whole cc0_stg0_0) (Memref.isWhole_whole _) (Memref.whole cc0_stg1_0) (Memref.isWhole_whole _)
      (Memref.whole main_arg2) (Memref.isWhole_whole _)
      (Memref.whole main_arg3) (Memref.isWhole_whole _) (Memref.whole main_arg4) (Memref.isWhole_whole _) (Memref.whole cc0_stg2_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) cc0_scratch5 cc0_scratch6 cc0_scratch7 cc0_scratch8) (fun _ => bodyPost m c)
  rw [body_eq]
  iintro H
  ihave H := (body_in m c) $$ H
  icases H with ⟨%K, H⟩
  iapply (sound_body m K c fun _ => bodyPost m c)
  isplitl [H]; · iexact H
  iintro H
  iapply (body_out m c); iexact H

/-! ## The launch's side conditions -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨H2, H3, H4⟩, Hlev, Hcr, -, HG⟩
  ihave Hc := (creds (F := F) c) $$ Hcr
  imodintro
  unfold start args woSrc
  isplitl
  · isplitl [HG]; · iexact HG
    isplitl [Hc]; · iexact Hc
    isplitl [Hlev]; · iexact Hlev
    isplitl [H2]; · iexact H2
    isplitl [H3] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀
  iintro ⟨Hs, -, Hr⟩
  isplitl [Hs] <;> iassumption

theorem phi1_exit (c : Dev nD) :
    (dats m 0 c).Φ (Fin.last cfg0.N) ⊢ iprop((unscopedSems0 c ∗ args m c) ∗ Pipeline.ownSems0 osem c ∗ Pipeline.scopedRest cfg0.spec c) := by
  rw [show (dats m 0 c).Φ (Fin.last cfg0.N) = Φ₁ m c from rfl, scratch_eq, ownSems0_eq, unscopedSems0_eq]
  unfold Φ₁
  iintro ⟨HzB, Hargs, Hs, Hr⟩
  isplitl [HzB Hargs]
  · isplitl [HzB] <;> iassumption
  isplitl [Hs] <;> iassumption

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- What is read at the end besides the staged arrays: the barrier's counter and the arguments no window stages. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)

omit [FloatOps F] [Named F] in
theorem read_whole_arg (c : Dev nD) (b : Ref sig .tc) (f : Buf (Elt F) ((c : Thread nD τ).loc b)) (s' : Phys nD τ sig (Elt F)) :
    iprop((((c : Thread nD τ).loc b) ↦{fullShare} f) ∗ SI s') ⊢ (iprop(⌜s'.mem.mem ((c : Thread nD τ).loc b) = f⌝ ∗ SI s') : sProp 𝕄) := by
  iintro ⟨H, HSI⟩
  ihave H' := (pointsTo_read_all (I := Unit) Finset.univ (fun _ => (c : Thread nD τ).loc b) (fun _ => f) s') $$ [H HSI]
  · isplitl [H]
    · rw [show bigSep Finset.univ (fun _ : Unit => (((c : Thread nD τ).loc b) ↦{fullShare} f : sProp 𝕄)) = (((c : Thread nD τ).loc b) ↦{fullShare} f) from
        bigSep_univ_eq_bigSepL [()] (by decide) (by decide) _]
      iexact H
    · iexact HSI
  icases H' with ⟨%h, HSI⟩
  isplitr; · ipureintro; exact h () (Finset.mem_univ _)
  iexact HSI

theorem read_end (c : Dev nD) (s' : Phys nD τ sig (Elt F)) :
    iprop((unscopedSems0 c ∗ args m c) ∗ emp ∗ SI s') ⊢ |={Set.univ}=> (iprop(⌜QY m c s'.mem⌝ ∗ SI s') : sProp 𝕄) := by
  unfold args woSrc
  iintro ⟨⟨Hu, H2, H3, H4⟩, -, HSI⟩
  ihave H := (read_whole_arg c main_arg2 _ s') $$ [H2 HSI]
  · isplitl [H2] <;> iassumption
  icases H with ⟨%h2, HSI⟩
  ihave H := (read_whole_arg c main_arg3 _ s') $$ [H3 HSI]
  · isplitl [H3] <;> iassumption
  icases H with ⟨%h3, HSI⟩
  ihave H := (read_whole_arg c main_arg4 _ s') $$ [H4 HSI]
  · isplitl [H4] <;> iassumption
  icases H with ⟨%h4, HSI⟩
  imod (Pipeline.unscopedSems0_read (X := unscopedSems0 c) (c := c) fupd_intro s') $$ [Hu HSI] with ⟨%h1, HSI⟩
  · isplitl [Hu] <;> iassumption
  imodintro
  isplitr; · ipureintro; exact ⟨h1, h2, h3, h4⟩
  iexact HSI

/-- The tokens of the exchange, from what the launch holds of them. -/
theorem fund_launch : BI.own ((Emb.inl.trans (embR (sig := sig) (τ := τ) (nD := nD))).toFun (initOf exCells exToks)) ⊢ (iprop(|==> bigSep Finset.univ (G m)) : sProp 𝕄) :=
  fund_ex m

def finalA (c : Dev nD) (w : Fin cfg0.W) : Buf (Elt F) ((cfg0.win w).arr.view.loc (c : Thread nD τ)) := (dats m 0 c).arrAt w cfg0.N

/-- Where a run ends: each staged array at its contents, the other arguments unchanged. -/
def QC : PUnit × MemSt nD τ sig (Elt F) → Prop := fun r =>
  ∀ c : Dev nD, (∀ w : Fin cfg0.W, r.2.mem ((cfg0.win w).arr.view.loc (c : Thread nD τ)) = finalA m c w) ∧ QY m c r.2

set_option maxRecDepth 100000 in
/-- Every weakly fair execution terminates, with the arrays as computed and every semaphore at zero. -/
theorem run_main [∀ e, Nonempty (Elt F e)] :
    θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (own_pair_emb _ _ _) $$ HX
      icases HX with ⟨HX, -⟩
      imod (fund_launch m) $$ HX with HG
      imodintro
      isplitl [HP] <;> iassumption)
    (hglob := glob m)
    (hA := fun _ _ => rfl) (hpf := fun _ k => k.elim0)
    (X := start m) (Y := fun c => iprop(unscopedSems0 c ∗ args m c)) (Z := fun _ => iprop(emp))
    (hX := start_intro m ρ) (hin := phi0_intro m) (hout := phi1_exit m)
    (QY := QY m)
    (hY := read_end m)
    (hQ := fun _ h hs => ⟨fun c => ⟨fun w => (h c).1 w, (h c).2.2⟩, sem_eq_zero hs fun c => (h c).2.2.1⟩)

theorem finalA_x (c : Dev nD) : finalA m c (0 : Fin 3) = m ((c : Thread nD τ).loc main_arg0) :=
  (dats (F := F) m 0 c).arrAt_in (0 : Fin 3) rfl _
theorem finalA_wq (c : Dev nD) : finalA m c (1 : Fin 3) = m ((c : Thread nD τ).loc main_arg1) :=
  (dats (F := F) m 0 c).arrAt_in (1 : Fin 3) rfl _

end Cert.TreeProof

end
-- ==== Proof.Frames.lean ====
/-
# The claims read off the two runs

Every execution of the program ends with its arguments unchanged and every semaphore at zero, at the bit-exact values and at
the extended reals; the reference's likewise; and the one rewritten constant is the value its name denotes.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run

@[expose] public section

noncomputable section

namespace Cert.TreeProof

open Cert.KernelIdeal Cert.KernelIdeal.Gen
open Idealize.ShloMosaic Idealize.SL.Sem
open Idealize.ShloMosaic.TcCoe

/-- At the bit-exact values the named constant is the word printed. -/
instance namedBits : Named Bits where
  named _ _ {φ} bits := FloatOps.ofBits φ bits

/-! The program as printed is the program the runs are stated of, at the bit-exact values. -/

theorem defs₀_eq : Cert.Kernel.defs₀ (F := Bits) = Cert.KernelIdeal.defs₀ (F := Bits) :=
  congrArg Defs.onTc (funext fun ℓ => funext fun a => match ℓ, a with
    | ⟨0, _⟩, (t, s) => rfl
    | ⟨_ + 1, h⟩, _ => absurd h (Nat.not_lt.2 (Nat.le_add_left _ _)))
theorem defs_eq : Cert.Kernel.defs (F := Bits) = Cert.KernelIdeal.defs (F := Bits) :=
  congrArg (Pipeline.defs (Cert.KernelIdeal.pcfgs (F := Bits))) defs₀_eq
theorem main_eq : Cert.Kernel.main (F := Bits) = Cert.KernelIdeal.main (F := Bits) := rfl

theorem run_kernel (m : (ℓ : Loc nD τ sig) → Buf (Elt Bits) ℓ) (ρ : Dev nD → PrngReg) :
    θ_run (Cert.Kernel.defs (F := Bits)) (onTc (τ := Cert.Kernel.τ) (Cert.Kernel.main (F := Bits))) ⟨m, fun _ => 0, ρ⟩ (fun r => QC m r ∧ r.2.sem = fun _ => 0) := by
  rw [defs_eq, main_eq]
  exact run_main (F := Bits) m ρ

theorem frame_kernel : Cert.quiescent_Kernel := fun m ρ _ =>
  (θ_run (Cert.Kernel.defs (F := Bits)) _ _).mono
    (fun _ h => ⟨fun c => ⟨((h.1 c).1 (0 : Fin 3)).trans (finalA_x m c), ((h.1 c).1 (1 : Fin 3)).trans (finalA_wq m c), (h.1 c).2.2⟩, h.2⟩)
    (run_kernel m ρ)

theorem frame_kernelIdeal : Cert.quiescent_KernelIdeal := fun m ρ _ =>
  (θ_run (Cert.KernelIdeal.defs (F := Ideal)) _ _).mono
    (fun _ h => ⟨fun c => ⟨((h.1 c).1 (0 : Fin 3)).trans (finalA_x m c), ((h.1 c).1 (1 : Fin 3)).trans (finalA_wq m c), (h.1 c).2.2⟩, h.2⟩)
    (run_main (F := Ideal) m ρ)

theorem frame_reference : Cert.quiescent_ReferenceIdeal := fun m ρ _ =>
  (θ_run (Cert.ReferenceIdeal.defs (F := Ideal)) _ _).mono
    (fun r h => ⟨fun c => (h c).2, sem_eq_zero_of_no_sems (by decide) r.2⟩)
    (Cert.ReferenceIdeal.Value.run (F := Ideal) m ρ)

theorem preserves : Cert.preserves_Kernel_KernelIdeal :=
  IdealRules.named_const.statement Cert.KernelIdeal.κ "scale_log2e" .f32 0x3E0293EE#32 _ rfl

end Cert.TreeProof

end
-- ==== Proof.Pay.lean ====
/-
# The body's arithmetic over the extended reals, element by element
-/
module

public import proofs.«01_k».proof.Proof.Blocks
public import Idealize.ShloMosaic.Lib.Pointwise

@[expose] public section

noncomputable section

namespace Cert.TreeProof

open Cert.KernelIdeal Cert.KernelIdeal.Gen
open Idealize.ShloMosaic

set_option maxRecDepth 16384

/-- The word of minus infinity. -/
theorem negInf : Ideal.ofBits .f32 0xFF800000#32 = (⊥ : EReal) := by simp [Ideal.ofBits, Ideal.ieee]

/-- A maximum folded from minus infinity is the supremum. -/
theorem fold_max {n : ℕ} (f : Fin n → EReal) : Finset.fold max (Ideal.ofBits .f32 0xFF800000#32) f Finset.univ = Finset.univ.sup f := by
  rw [negInf]; rfl

/-! ## One device, one head -/

theorem pay1_apply (x : Vec Ideal S256x1024 .f32) (wq : Vec Ideal S1024x1024 .f32) (i : Fin 256) (e : Fin 1024) :
    k0_pay1 (F := Ideal) x wq (ix2 i e) = (∑ k : Fin 1024, x (ix2 i k) * wq (ix2 k e)) * (((Real.sqrt 128)⁻¹ * (Real.log 2)⁻¹ : ℝ) : EReal) := by
  pointwise [k0_pay1]
  rfl

theorem scores_apply (h : Fin 8) (qs : FVec Ideal S256x1024 .bf16) (kb : Vec Ideal S1x4096x128 .f32) (j : Fin 4096) (i : Fin 256) :
    scores (F := Ideal) h qs kb (ix2 j i) = ∑ d : Fin 128, kb (ix3 0 j d) * qs (ix2 i ⟨128 * h.val + d.val, by omega⟩) := by
  pointwise [scores]

theorem max_apply (s : FVec Ideal S4096x256 .f32) (i : Fin 256) :
    k0_pay9 (k0_pay5 (F := Ideal) s) (ix3 0 0 i) = Finset.univ.sup fun j : Fin 4096 => s (ix2 j i) := by
  pointwise [k0_pay9, k0_pay5]
  exact fold_max _

theorem exp_apply (s : FVec Ideal S4096x256 .f32) (j : Fin 4096) (i : Fin 256) :
    k0_pay6 (F := Ideal) s (ix2 j i) = Ideal.exp2 (s (ix2 j i) - Finset.univ.sup fun j : Fin 4096 => s (ix2 j i)) := by
  pointwise [k0_pay6, k0_pay5]
  rw [fold_max]; rfl

theorem sum_apply (s : FVec Ideal S4096x256 .f32) (i : Fin 256) :
    k0_pay10 (k0_pay7 (F := Ideal) s) (ix3 0 0 i) = ∑ j : Fin 4096, k0_pay6 (F := Ideal) s (ix2 j i) := by
  pointwise [k0_pay10, k0_pay7]

theorem weighted_apply (s : FVec Ideal S4096x256 .f32) (vb : Vec Ideal S1x4096x128 .f32) (d : Fin 128) (i : Fin 256) :
    k0_pay8 (F := Ideal) s vb (ix4 0 0 d i) = ∑ j : Fin 4096, vb (ix3 0 j d) * k0_pay6 (F := Ideal) s (ix2 j i) := by
  pointwise [k0_pay8]

/-! ## One merge -/

/-- Two parts' sums brought to their common maximum. -/
def merged (m₁ m₂ a₁ a₂ : EReal) : EReal := Ideal.exp2 (m₁ - max m₁ m₂) * a₁ + Ideal.exp2 (m₂ - max m₁ m₂) * a₂

variable (w : Pair Ideal)

theorem pairM_apply (n : Fin 2) (i : Fin 256) : w.m (ix3 0 n i) = max (w.m₁ (ix3 0 n i)) (w.m₂ (ix3 0 n i)) := by
  pointwise [Pair.m, k0_pay51, k0_pay45, k0_pay43, k0_pay44]

theorem pairL_apply (n : Fin 2) (i : Fin 256) :
    w.l (ix3 0 n i) = merged (w.m₁ (ix3 0 n i)) (w.m₂ (ix3 0 n i)) (w.l₁ (ix3 0 n i)) (w.l₂ (ix3 0 n i)) := by
  pointwise [Pair.l, k0_pay52, k0_pay48, k0_pay46, k0_pay47, k0_pay45, k0_pay43, k0_pay44, merged]
  rfl

theorem pairO_apply (n : Fin 2) (d : Fin 128) (i : Fin 256) :
    w.o (ix4 0 n d i) = merged (w.m₁ (ix3 0 n i)) (w.m₂ (ix3 0 n i)) (w.o₁ (ix4 0 n d i)) (w.o₂ (ix4 0 n d i)) := by
  pointwise [Pair.o, k0_pay50, k0_pay49, k0_pay46, k0_pay47, k0_pay45, k0_pay43, k0_pay44, merged]
  rfl

theorem pairProj_apply (w₀ w₁ : Vec Ideal S128x1024 .f32) (i : Fin 256) (e : Fin 1024) :
    w.proj w₀ w₁ (ix2 i e) =
      (∑ d : Fin 128, Ideal.div (merged (w.m₁ (ix3 0 0 i)) (w.m₂ (ix3 0 0 i)) (w.o₁ (ix4 0 0 d i)) (w.o₂ (ix4 0 0 d i)))
          (merged (w.m₁ (ix3 0 0 i)) (w.m₂ (ix3 0 0 i)) (w.l₁ (ix3 0 0 i)) (w.l₂ (ix3 0 0 i))) * w₀ (ix2 d e))
        + ∑ d : Fin 128, Ideal.div (merged (w.m₁ (ix3 0 1 i)) (w.m₂ (ix3 0 1 i)) (w.o₁ (ix4 0 1 d i)) (w.o₂ (ix4 0 1 d i)))
          (merged (w.m₁ (ix3 0 1 i)) (w.m₂ (ix3 0 1 i)) (w.l₁ (ix3 0 1 i)) (w.l₂ (ix3 0 1 i))) * w₁ (ix2 d e) := by
  pointwise [Pair.proj, k0_pay114, merged]
  rfl

end Cert.TreeProof

end
-- ==== Proof.Reads.lean ====
/-
# What a device reads of its arguments, element by element

The staged arrays, the slabs of keys and values, the rows of the output projection; and the array a device ends with.
-/
module

public import proofs.«01_k».proof.Proof.Run
public import proofs.«01_k».proof.Proof.Pay
public import Idealize.ShloMosaic.Lib.Pipeline.ValueKit

@[expose] public section

noncomputable section

namespace Cert.TreeProof

open Cert.KernelIdeal Cert.KernelIdeal.Gen
open Idealize.ShloMosaic
open Idealize.ShloMosaic.TcCoe

set_option maxRecDepth 16384

variable {F : FTy → Type} [FloatOps F] [Named F]
variable (m : (ℓ : Loc nD τ sig) → Buf (Elt F) ℓ)

theorem xstg_eq (c : Dev nD) : xstg m c = (m ((c : Thread nD τ).loc main_arg0) : Vec F S256x1024 .f32) := by
  funext y
  refine congrArg (m ((c : Thread nD τ).loc main_arg0) : Vec F S256x1024 .f32) (funext fun a => Fin.ext ?_)
  fin_cases a
  · show 0 * 256 + 1 * (y 0).val = (y 0).val
    omega
  · show 0 * 1024 + 1 * (y 1).val = (y 1).val
    omega

theorem wqstg_eq (c : Dev nD) : wqstg m c = (m ((c : Thread nD τ).loc main_arg1) : Vec F S1024x1024 .f32) := by
  funext y
  refine congrArg (m ((c : Thread nD τ).loc main_arg1) : Vec F S1024x1024 .f32) (funext fun a => Fin.ext ?_)
  fin_cases a
  · show 0 * 1024 + 1 * (y 0).val = (y 0).val
    omega
  · show 0 * 1024 + 1 * (y 1).val = (y 1).val
    omega

/-- A slab's two shape casts, at an index. -/
theorem slab_cast (X : Vec F S4096x1x128 .f32) (h₁ : S4096x1x128.ShapeCasts S4096x128) (h₂ : S4096x128.ShapeCasts S1x4096x128) (j : Fin 4096) (d : Fin 128) :
    shapeCast S1x4096x128 (shapeCast S4096x128 X h₁) h₂ (ix3 0 j d) = X (ix3 j 0 d) := by
  pointwise

theorem rArr_apply (f : Vec F S4096x8x128 .f32) (h : Fin 8) (j : Fin 4096) (d : Fin 128) : f ((rArr h).emb (ix3 j 0 d)) = f (ix3 j h d) := by
  refine congrArg f (funext fun a => Fin.ext ?_)
  fin_cases a
  · show 0 + 1 * j.val = j.val
    omega
  · show h.val + 1 * 0 = h.val
    omega
  · show 0 + 1 * d.val = d.val
    omega

theorem casts_slab : S4096x1x128.ShapeCasts S4096x128 := by decide

theorem slabK_apply (f : Vec F S4096x8x128 .f32) (h : Fin 8) (j : Fin 4096) (d : Fin 128) : slab kHbm f h (ix3 0 j d) = f (ix3 j h d) :=
  (slab_cast (fun y => f ((rArr h).emb y)) casts_slab (by decide) j d).trans (rArr_apply f h j d)
theorem slabV_apply (f : Vec F S4096x8x128 .f32) (h : Fin 8) (j : Fin 4096) (d : Fin 128) : slab vHbm f h (ix3 0 j d) = f (ix3 j h d) :=
  (slab_cast (fun y => f ((rArr h).emb y)) casts_slab (by decide) j d).trans (rArr_apply f h j d)

theorem kSlab_apply (c : Dev nD) (h : Fin 8) (j : Fin 4096) (d : Fin 128) :
    kSlab m c h (ix3 0 j d) = (m ((c : Thread nD τ).loc main_arg3) : Vec F S4096x8x128 .f32) (ix3 j h d) := slabK_apply _ h j d
theorem vSlab_apply (c : Dev nD) (h : Fin 8) (j : Fin 4096) (d : Fin 128) :
    vSlab m c h (ix3 0 j d) = (m ((c : Thread nD τ).loc main_arg4) : Vec F S4096x8x128 .f32) (ix3 j h d) := slabV_apply _ h j d

theorem woRows_apply (c : Dev nD) (h : Fin 8) (d : Fin 128) (e : Fin 1024) :
    woRows m c h (ix2 d e) = (m ((c : Thread nD τ).loc main_arg2) : Vec F S1024x1024 .f32) (ix2 ⟨128 * h.val + d.val, by omega⟩ e) := by
  refine congrArg (m ((c : Thread nD τ).loc main_arg2) : Vec F S1024x1024 .f32) (funext fun a => Fin.ext ?_)
  fin_cases a
  · show 128 * h.val + 1 * d.val = 128 * h.val + d.val
    omega
  · show 0 + 1 * e.val = e.val
    omega

/-- The array a device ends with is the output its body wrote. -/
theorem finalA_out (c : Dev nD) : finalA m c (2 : Fin 3) = outOf m c := by
  funext i
  refine ((dats (F := F) m 0 c).arrAt_emb_eq_after_last (2 : Fin 3) t0_0 (by decide +kernel) i).trans ?_
  rfl

end Cert.TreeProof

end
-- ==== Proof.Softmax.lean ====
/-
# Softmax sums over the extended reals

A set of scores, each with a weight, has a maximum, a sum of exponentials below the maximum, and a weighted sum of them.
Two disjoint sets' sums, brought to their common maximum, add up to those of the union: at every extended real, the infinities
included, so that no finiteness is asked for.
-/
module

public import Idealize.ShloMosaic.PureOps.Ideal
public import Mathlib.Analysis.SpecialFunctions.Pow.Real

@[expose] public section

noncomputable section

namespace Cert.TreeProof

open Idealize.ShloMosaic

/-- Multiplying by a nonnegative real distributes over every sum. -/
theorem mul_sum_coe {ι : Type} (A : Finset ι) (f : ι → EReal) (r : ℝ) (hr : 0 ≤ r) : (r : EReal) * ∑ j ∈ A, f j = ∑ j ∈ A, (r : EReal) * f j := by
  classical
  induction A using Finset.induction_on with
  | empty => simp
  | insert a A ha ih => rw [Finset.sum_insert ha, Finset.sum_insert ha, EReal.left_distrib_of_nonneg_of_ne_top (by exact_mod_cast hr) (EReal.coe_ne_top r), ih]

/-- The exponential of a difference from something no smaller is a nonnegative real. -/
theorem exp2_real (x y : EReal) (h : x ≤ y) : ∃ r : ℝ, 0 ≤ r ∧ Ideal.exp2 (x - y) = (r : EReal) := by
  induction x with
  | bot => exact ⟨0, le_refl _, by rw [EReal.bot_sub]; rfl⟩
  | top =>
    rw [top_le_iff] at h; subst h
    exact ⟨0, le_refl _, by rw [EReal.sub_top]; rfl⟩
  | coe x =>
    induction y with
    | bot => exact absurd h (by simp)
    | top => exact ⟨0, le_refl _, by rw [EReal.sub_top]; rfl⟩
    | coe y => exact ⟨Real.rpow 2 (x - y), Real.rpow_nonneg (by norm_num) _, by rw [← EReal.coe_sub]; rfl⟩

/-- Exponentials below a maximum compose. -/
theorem exp2_comp (t m M : EReal) (h₁ : t ≤ m) (h₂ : m ≤ M) : Ideal.exp2 (m - M) * Ideal.exp2 (t - m) = Ideal.exp2 (t - M) := by
  have e0 : Ideal.exp2 ⊥ = 0 := rfl
  induction M with
  | top =>
    rw [EReal.sub_top, EReal.sub_top, e0, zero_mul]
  | bot =>
    rw [le_bot_iff] at h₂; subst h₂
    rw [le_bot_iff] at h₁; subst h₁
    rw [EReal.bot_sub, e0, zero_mul]
  | coe M =>
    induction m with
    | top => exact absurd h₂ (by simp)
    | bot =>
      rw [le_bot_iff] at h₁; subst h₁
      rw [EReal.bot_sub, EReal.bot_sub, e0, zero_mul]
    | coe m =>
      induction t with
      | top => exact absurd h₁ (by simp)
      | bot => rw [EReal.bot_sub, EReal.bot_sub, e0, mul_zero]
      | coe t =>
        rw [← EReal.coe_sub, ← EReal.coe_sub, ← EReal.coe_sub]
        show ((Real.rpow 2 (m - M) : ℝ) : EReal) * ((Real.rpow 2 (t - m) : ℝ) : EReal) = ((Real.rpow 2 (t - M) : ℝ) : EReal)
        rw [← EReal.coe_mul]
        congr 1
        show (2 : ℝ) ^ (m - M) * (2 : ℝ) ^ (t - m) = (2 : ℝ) ^ (t - M)
        rw [← Real.rpow_add (by norm_num)]
        congr 1; ring

/-- A score scaled by 1 / log 2 has, in base two, the exponential it had in base e. -/
theorem exp2_scaled (x : EReal) : Ideal.exp2 (((Real.log 2)⁻¹ : ℝ) * x) = Ideal.exp x := by
  have hl : 0 < Real.log 2 := Real.log_pos (by norm_num)
  have hp : 0 < (Real.log 2)⁻¹ := inv_pos.2 hl
  induction x with
  | bot => rw [EReal.coe_mul_bot_of_pos hp]; rfl
  | top => rw [EReal.coe_mul_top_of_pos hp]; rfl
  | coe x =>
    rw [← EReal.coe_mul]
    show ((Real.rpow 2 ((Real.log 2)⁻¹ * x) : ℝ) : EReal) = ((Real.exp x : ℝ) : EReal)
    congr 1
    show (2 : ℝ) ^ ((Real.log 2)⁻¹ * x) = Real.exp x
    rw [Real.rpow_def_of_pos (by norm_num)]
    congr 1
    field_simp

theorem scale_sub (r : ℝ) (hr : 0 < r) (x y : EReal) : (r : EReal) * x - (r : EReal) * y = (r : EReal) * (x - y) := by
  rw [sub_eq_add_neg, sub_eq_add_neg, ← mul_neg, ← EReal.left_distrib_of_nonneg_of_ne_top (by exact_mod_cast hr.le) (EReal.coe_ne_top r)]

/-- The maximum of scaled scores is the scaled maximum. -/
theorem scale_sup {ι : Type} (A : Finset ι) (f : ι → EReal) (r : ℝ) (hr : 0 < r) : A.sup (fun j => (r : EReal) * f j) = (r : EReal) * A.sup f := by
  classical
  have hm : Monotone fun x : EReal => (r : EReal) * x := fun a b h => mul_le_mul_of_nonneg_left h (by exact_mod_cast hr.le)
  exact (Finset.comp_sup_eq_sup_comp (fun x : EReal => (r : EReal) * x) (fun a b => hm.map_sup a b) (EReal.coe_mul_bot_of_pos hr)).symm

/-! ## Sums below a maximum -/

section
variable {ι : Type} [DecidableEq ι] (t : ι → EReal) (v : ι → EReal)

/-- The weighted sum of the exponentials, in base two, below the set's maximum. -/
def below (A : Finset ι) : EReal := ∑ j ∈ A, v j * Ideal.exp2 (t j - A.sup t)

/-- One part brought to a larger maximum. -/
theorem below_raise (A : Finset ι) (M : EReal) (h : A.sup t ≤ M) :
    Ideal.exp2 (A.sup t - M) * below t v A = ∑ j ∈ A, v j * Ideal.exp2 (t j - M) := by
  obtain ⟨r, hr, he⟩ := exp2_real _ _ h
  unfold below
  rw [he, mul_sum_coe _ _ _ hr, ← he]
  refine Finset.sum_congr rfl fun j hj => ?_
  rw [mul_left_comm, exp2_comp _ _ _ (Finset.le_sup hj) h]

theorem below_union (A B : Finset ι) (hd : Disjoint A B) :
    Ideal.exp2 (A.sup t - max (A.sup t) (B.sup t)) * below t v A + Ideal.exp2 (B.sup t - max (A.sup t) (B.sup t)) * below t v B = below t v (A ∪ B) := by
  rw [below_raise t v A _ (le_max_left _ _), below_raise t v B _ (le_max_right _ _)]
  unfold below
  rw [Finset.sum_union hd, Finset.sup_union]

end

end Cert.TreeProof

end
-- ==== Proof.Stages.lean ====
/-
# What a device holds before each round

Before round `r` a device's chunk is the softmax sums, over the keys and values of the 2^r devices of its cluster, of two heads;
after the third round's merge the cluster is the whole mesh.
-/
module

public import proofs.«01_k».proof.Proof.Values
public import proofs.«01_k».proof.Proof.Pay
public import proofs.«01_k».proof.Proof.Softmax

@[expose] public section

noncomputable section

namespace Cert.TreeProof

open Cert.KernelIdeal Cert.KernelIdeal.Gen
open Idealize.ShloMosaic

set_option maxRecDepth 16384

variable (m : (ℓ : Loc nD τ sig) → Buf (Elt Ideal) ℓ)

/-- A key's place: its device, and its row there. -/
abbrev Place := Dev nD × Fin 4096

/-- Head `h`'s score of query `i` at a key, -/
def T (h : Fin 8) (i : Fin 256) (p : Place) : EReal := st m p.1 h (ix2 p.2 i)
/-- and coordinate `d` of its value. -/
def W (h : Fin 8) (d : Fin 128) (p : Place) : EReal := vSlab m p.1 h (ix3 0 p.2 d)

/-- The devices whose keys are in device `c`'s chunk before round `r`. -/
def cl : ℕ → Dev nD → Finset (Dev nD)
  | 0, c => {c}
  | r + 1, c => cl r c ∪ cl r (if h : r < 3 then peer ⟨r, h⟩ c else c)
def places (A : Finset (Dev nD)) : Finset Place := A ×ˢ Finset.univ

theorem cl_disjoint (r : Fin 3) (c : Dev nD) : Disjoint (cl r c) (cl r (peer r c)) := by revert r c; decide
theorem cl_last (c : Dev nD) : cl 2 c ∪ cl 2 (peer 2 c) = Finset.univ := by revert c; decide

theorem places_union (A B : Finset (Dev nD)) : places (A ∪ B) = places A ∪ places B := Finset.union_product
theorem places_disjoint {A B : Finset (Dev nD)} (h : Disjoint A B) : Disjoint (places A) (places B) := Finset.disjoint_product.2 (.inl h)
theorem places_univ : places Finset.univ = Finset.univ := Finset.univ_product_univ

/-! ## One device -/

theorem sup_single (c : Dev nD) (t : Place → EReal) : (places {c}).sup t = Finset.univ.sup fun j : Fin 4096 => t (c, j) := by
  unfold places
  rw [Finset.sup_product_left, Finset.sup_singleton]

theorem below_single (c : Dev nD) (t v : Place → EReal) :
    below t v (places {c}) = ∑ j : Fin 4096, v (c, j) * Ideal.exp2 (t (c, j) - Finset.univ.sup fun j : Fin 4096 => t (c, j)) := by
  unfold below
  rw [sup_single]
  unfold places
  rw [Finset.sum_product, Finset.sum_singleton]

/-! ## A chunk -/

/-- Chunk `k` holds the sums over the keys at the places `A`. -/
structure Holds (k : Fin 4) (A : Finset Place) (w : Chunk Ideal) : Prop where
  max : ∀ (n : Fin 2) (i : Fin 256), w.s (sub2 0 (ix3 0 n i)) = A.sup (T m (headOf k n) i)
  sum : ∀ (n : Fin 2) (i : Fin 256), w.s (sub2 1 (ix3 0 n i)) = below (T m (headOf k n) i) (fun _ => 1) A
  val : ∀ (n : Fin 2) (d : Fin 128) (i : Fin 256), w.o (ix4 0 n d i) = below (T m (headOf k n) i) (W m (headOf k n) d) A

theorem joinS_zero (a b : Vec Ideal S1x2x256 .f32) (n : Fin 2) (i : Fin 256) : joinS a b (sub2 0 (ix3 0 n i)) = a (ix3 0 n i) := by
  fin_cases n <;> rfl
theorem joinS_one (a b : Vec Ideal S1x2x256 .f32) (n : Fin 2) (i : Fin 256) : joinS a b (sub2 1 (ix3 0 n i)) = b (ix3 0 n i) := by
  fin_cases n <;> rfl

theorem holds_chunk0 (c : Dev nD) (k : Fin 4) : Holds m k (places (cl 0 c)) (chunk0 m c k) where
  max n i := by
    have e : (chunk0 m c k).s (sub2 0 (ix3 0 n i)) = headM m c (headOf k n) (ix3 0 0 i) := by
      have hn : 2 * 0 + n.val < 2 := by omega
      exact (dif_pos hn).trans (congrArg (fun n' : Fin 2 => headM m c (headOf k n') (ix3 0 0 i)) (Fin.ext (by show 2 * 0 + n.val = n.val; omega)))
    rw [e, headM, max_apply]
    exact (sup_single c (T m (headOf k n) i)).symm
  sum n i := by
    have e : (chunk0 m c k).s (sub2 1 (ix3 0 n i)) = headL m c (headOf k n) (ix3 0 0 i) := by
      have hn : ¬ 2 * 1 + n.val < 2 := by omega
      exact (dif_neg hn).trans (congrArg (fun n' : Fin 2 => headL m c (headOf k n') (ix3 0 0 i)) (Fin.ext (by show 2 * 1 + n.val - 2 = n.val; omega)))
    rw [e, headL, sum_apply]
    refine Eq.trans ?_ (below_single c _ _).symm
    exact Finset.sum_congr rfl fun j _ => (exp_apply _ j i).trans (one_mul _).symm
  val n d i := by
    show headO m c (headOf k n) (ix4 0 0 d i) = _
    rw [headO, weighted_apply]
    refine Eq.trans ?_ (below_single c _ _).symm
    exact Finset.sum_congr rfl fun j _ => congrArg _ (exp_apply _ j i)

section
variable {m} {k : Fin 4} {A B : Finset Place} {a b : Chunk Ideal} (ha : Holds m k A a) (hb : Holds m k B b) (hd : Disjoint A B)
include ha hb

theorem pair_max (n : Fin 2) (i : Fin 256) : (pairOf a b).m (ix3 0 n i) = (A ∪ B).sup (T m (headOf k n) i) :=
  (pairM_apply _ n i).trans (by
    show max (a.s (sub2 0 (ix3 0 n i))) (b.s (sub2 0 (ix3 0 n i))) = _
    rw [ha.max, hb.max, Finset.sup_union])

include hd

theorem merged_sum (n : Fin 2) (i : Fin 256) :
    merged ((pairOf a b).m₁ (ix3 0 n i)) ((pairOf a b).m₂ (ix3 0 n i)) ((pairOf a b).l₁ (ix3 0 n i)) ((pairOf a b).l₂ (ix3 0 n i))
      = below (T m (headOf k n) i) (fun _ => 1) (A ∪ B) := by
  show merged (a.s (sub2 0 (ix3 0 n i))) (b.s (sub2 0 (ix3 0 n i))) (a.s (sub2 1 (ix3 0 n i))) (b.s (sub2 1 (ix3 0 n i))) = _
  rw [ha.max, hb.max, ha.sum, hb.sum]
  exact below_union _ _ A B hd

theorem merged_val (n : Fin 2) (d : Fin 128) (i : Fin 256) :
    merged ((pairOf a b).m₁ (ix3 0 n i)) ((pairOf a b).m₂ (ix3 0 n i)) ((pairOf a b).o₁ (ix4 0 n d i)) ((pairOf a b).o₂ (ix4 0 n d i))
      = below (T m (headOf k n) i) (W m (headOf k n) d) (A ∪ B) := by
  show merged (a.s (sub2 0 (ix3 0 n i))) (b.s (sub2 0 (ix3 0 n i))) (a.o (ix4 0 n d i)) (b.o (ix4 0 n d i)) = _
  rw [ha.max, hb.max, ha.val, hb.val]
  exact below_union _ _ A B hd

theorem holds_merge : Holds m k (A ∪ B) (mergeC a b) where
  max n i := (joinS_zero _ _ n i).trans (pair_max ha hb n i)
  sum n i := (joinS_one _ _ n i).trans ((pairL_apply _ n i).trans (merged_sum ha hb hd n i))
  val n d i := (pairO_apply _ n d i).trans (merged_val ha hb hd n d i)

end

/-- Before round `r` device `c`'s chunk holds its cluster's sums. -/
theorem holds_stage (r : Fin 3) (c : Dev nD) (k : Fin 4) : Holds m k (places (cl r c)) (stage m r c k) := by
  have h0 : ∀ c, Holds m k (places (cl 0 c)) (stage m 0 c k) := fun c => holds_chunk0 m c k
  have h1 : ∀ c, Holds m k (places (cl 1 c)) (stage m 1 c k) := fun c => by
    rw [stage_one, show cl 1 c = cl 0 c ∪ cl 0 (peer 0 c) from rfl, places_union]
    exact holds_merge (h0 c) (h0 _) (places_disjoint (cl_disjoint 0 c))
  have h2 : ∀ c, Holds m k (places (cl 2 c)) (stage m 2 c k) := fun c => by
    rw [stage_two, show cl 2 c = cl 1 c ∪ cl 1 (peer 1 c) from rfl, places_union]
    exact holds_merge (h1 c) (h1 _) (places_disjoint (cl_disjoint 1 c))
  match r with
  | 0 => exact h0 c
  | 1 => exact h1 c
  | 2 => exact h2 c

/-! ## The output -/

/-- Head `h`'s attention of query `i`, coordinate `d`, over every device's keys and values. -/
def att (h : Fin 8) (i : Fin 256) (d : Fin 128) : EReal :=
  Ideal.div (below (T m h i) (W m h d) Finset.univ) (below (T m h i) (fun _ => 1) Finset.univ)
/-- What it adds to the output. -/
def headAdd (c : Dev nD) (h : Fin 8) (i : Fin 256) (e : Fin 1024) : EReal := ∑ d : Fin 128, att m h i d * woRows m c h (ix2 d e)

theorem projOf_apply (c : Dev nD) (k : Fin 4) (i : Fin 256) (e : Fin 1024) :
    projOf m c k (ix2 i e) = headAdd m c (headOf k 0) i e + headAdd m c (headOf k 1) i e := by
  have hA := holds_stage m 2 c k
  have hB := holds_stage m 2 (peer 2 c) k
  have hd := places_disjoint (cl_disjoint 2 c)
  have hu : places (cl 2 c) ∪ places (cl 2 (peer 2 c)) = Finset.univ := by rw [← places_union, cl_last, places_univ]
  rw [projOf, pairProj_apply]
  refine congrArg₂ (· + ·) ?_ ?_
  · refine Finset.sum_congr rfl fun d _ => congrArg (· * _) ?_
    refine congrArg₂ Ideal.div ((merged_val hA hB hd 0 d i).trans ?_) ((merged_sum hA hB hd 0 i).trans ?_)
    · exact congrArg _ hu
    · exact congrArg _ hu
  · refine Finset.sum_congr rfl fun d _ => congrArg (· * _) ?_
    refine congrArg₂ Ideal.div ((merged_val hA hB hd 1 d i).trans ?_) ((merged_sum hA hB hd 1 i).trans ?_)
    · exact congrArg _ hu
    · exact congrArg _ hu

theorem outOf_apply (c : Dev nD) (i : Fin 256) (e : Fin 1024) :
    outOf m c (ix2 i e) = ∑ h : Fin 8, headAdd m c h i e := by
  have e' : outOf m c (ix2 i e) = (projOf m c 0 (ix2 i e) + projOf m c 1 (ix2 i e)) + (projOf m c 2 (ix2 i e) + projOf m c 3 (ix2 i e)) := rfl
  rw [e', projOf_apply, projOf_apply, projOf_apply, projOf_apply, Fin.sum_univ_eight]
  show (headAdd m c 0 i e + headAdd m c 1 i e + (headAdd m c 2 i e + headAdd m c 3 i e)) + (headAdd m c 4 i e + headAdd m c 5 i e + (headAdd m c 6 i e + headAdd m c 7 i e)) = _
  simp only [add_assoc]

end Cert.TreeProof

end
-- ==== Proof.Ref.lean ====
/-
# What the reference computes, element by element
-/
module

public import proofs.«01_k».proof.Proof.Gen.ReferenceIdeal
public import proofs.«01_k».proof.Proof.Gen.ReferenceIdeal.Run
public import proofs.«01_k».proof.Proof.Pay

@[expose] public section

noncomputable section

namespace Cert.TreeProof.Ref

open Cert.ReferenceIdeal Cert.ReferenceIdeal.Gen
open Idealize.ShloMosaic

set_option maxRecDepth 16384

/-! ## The reference's stages -/

variable (x : FVec Ideal S256x1024 .f32) (wq wo : FVec Ideal S1024x1024 .f32) (K V : FVec Ideal S32768x8x128 .f32)

def query : FVec Ideal S256x8x128 .f32 :=
  shapeCast _ (Host.dotGeneral dot_S256x1024_S1024x1024_S256x1024_1_0_0_1_n_n none x wq) shapeCasts_S256x1024_S256x8x128
def score (q : FVec Ideal S256x8x128 .f32) : FVec Ideal S8x256x32768 .f32 :=
  mulf (Host.dotGeneral dot_S256x8x128_S32768x8x128_S8x256x32768_2_2_0_0_1_1 none q K) (broadcastInDim S8x256x32768 ![] bcast_S_S8x256x32768 (Host.rsqrt (constant S_ .f32 0x43000000#32)))
def weight (s : FVec Ideal S8x256x32768 .f32) : FVec Ideal S8x256x32768 .f32 :=
  Host.exp (subf s (broadcastInDim S8x256x32768 ![0, 1, 2] bcast_S8x256x1_S8x256x32768_0_1_2 (broadcastInDim S8x256x1 ![0, 1] bcast_S8x256_S8x256x1_0_1 (Host.reduce FloatOps.maximumf s (constant S_ .f32 0xFF800000#32) reducesTo_S8x256x32768_S8x256_d2 h_S_))))
def attended (p : FVec Ideal S8x256x32768 .f32) : FVec Ideal S256x8x128 .f32 :=
  Host.divf (transpose S256x8x128 [2, 0, 1] (Host.dotGeneral dot_S32768x8x128_S8x256x32768_S8x128x256_0_2_2_1_1_0 none V p) transposes_S8x128x256_S256x8x128_2_0_1)
    (broadcastInDim S256x8x128 ![0, 1, 2] bcast_S256x8x1_S256x8x128_0_1_2 (transpose S256x8x1 [1, 0, 2] (broadcastInDim S8x256x1 ![0, 1] bcast_S8x256_S8x256x1_0_1 (Host.reduceAdd p (constant S_ .f32 0x00000000#32) reducesTo_S8x256x32768_S8x256_d2 h_S_)) transposes_S8x256x1_S256x8x1_1_0_2))
def projected (a : FVec Ideal S256x8x128 .f32) : FVec Ideal S256x1024 .f32 :=
  Host.dotGeneral dot_S256x1024_S1024x1024_S256x1024_1_0_0_1_n_n none (shapeCast _ a shapeCasts_S256x8x128_S256x1024) wo
/-- The whole reference. -/
def result : FVec Ideal S256x1024 .f32 := projected wo (attended V (weight (score K (query x wq))))

/-! ## At an index -/

/-- The head size, as the reference's word for it reads. -/
theorem word128 : Ideal.ofBits .f32 0x43000000#32 = ((128 : ℝ) : EReal) := by
  simp [Ideal.ofBits, Ideal.ieee, -EReal.coe_mul]; norm_num

theorem query_apply (i : Fin 256) (h : Fin 8) (d : Fin 128) :
    query x wq (ix3 i h d) = ∑ k : Fin 1024, x (ix2 i k) * wq (ix2 k ⟨128 * h.val + d.val, by omega⟩) := by
  pointwise [query]
  refine Finset.sum_congr rfl fun k _ => ?_
  congr 3
  exact Fin.ext (congrArg (· + d.val) (Nat.mul_comm _ _))

theorem score_apply (q : FVec Ideal S256x8x128 .f32) (h : Fin 8) (i : Fin 256) (j : Fin 32768) :
    score K q (ix3 h i j) = (∑ d : Fin 128, q (ix3 i h d) * K (ix3 j h d)) * (((Real.sqrt 128)⁻¹ : ℝ) : EReal) := by
  pointwise [score]
  rw [word128, Ideal.rsqrt_coe, if_neg (by norm_num), if_neg (by norm_num)]

theorem weight_apply (s : FVec Ideal S8x256x32768 .f32) (h : Fin 8) (i : Fin 256) (j : Fin 32768) :
    weight s (ix3 h i j) = Ideal.exp (s (ix3 h i j) - Finset.univ.sup fun j : Fin 32768 => s (ix3 h i j)) := by
  pointwise [weight]
  rw [fold_max]

theorem attended_apply (p : FVec Ideal S8x256x32768 .f32) (i : Fin 256) (h : Fin 8) (d : Fin 128) :
    attended V p (ix3 i h d) = Ideal.div (∑ j : Fin 32768, V (ix3 j h d) * p (ix3 h i j)) (∑ j : Fin 32768, p (ix3 h i j)) := by
  pointwise [attended]

theorem projected_apply (a : FVec Ideal S256x8x128 .f32) (i : Fin 256) (e : Fin 1024) :
    projected wo a (ix2 i e) = ∑ n : Fin 1024, a (ix3 i ⟨n.val / 128, by omega⟩ ⟨n.val % 128, by omega⟩) * wo (ix2 n e) := by
  pointwise [projected]

/-- The reference's run ends with its result at `result` and its arguments unchanged. -/
theorem run (m : (ℓ : Loc nD τ sig) → Buf (Elt Ideal) ℓ) (ρ : Dev nD → PrngReg) (c : Dev nD) :
    θ_run (defs (F := Ideal)) (onTc (τ := τ) (main (F := Ideal))) ⟨m, fun _ => 0, ρ⟩ fun r =>
      r.2.mem ((c.tc : Thread nD τ).loc main_v19) = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4) :=
  (θ_run (defs (F := Ideal)) _ _).mono (fun _ h => h c) (Cert.ReferenceIdeal.Value.run (F := Ideal) m ρ)

end Cert.TreeProof.Ref

end
-- ==== Proof.Algebraic.lean ====
/-
# The kernel's output is the reference's

Over the extended reals, at every index, from any arguments.
-/
module

public import proofs.«01_k».proof.Defs
public import proofs.«01_k».proof.Proof.Frames
public import proofs.«01_k».proof.Proof.Reads
public import proofs.«01_k».proof.Proof.Stages
public import proofs.«01_k».proof.Proof.Ref

@[expose] public section

noncomputable section

namespace Cert.TreeProof

open Cert.KernelIdeal Cert.KernelIdeal.Gen
open Idealize.ShloMosaic Idealize.SL.Sem
open Idealize.ShloMosaic.TcCoe

set_option maxRecDepth 16384

/-! ## Places are the rows of the whole arrays -/

/-- Row `p.2` of device `p.1` is row `4096 · p.1 + p.2` of the whole. -/
def row : Place ≃ Fin 32768 := finProdFinEquiv.trans (finCongr (by norm_num))

theorem row_val (p : Place) : (row p).val = p.2.val + 4096 * p.1.val := rfl

theorem block_row (Y : FVec Ideal Cert.ReferenceIdeal.S32768x8x128 .f32) (c : Dev nD) (j : Fin 4096) (h : Fin 8) (d : Fin 128) :
    Layout.block ⟨3, ![4096, 8, 128]⟩ ⟨3, ![32768, 8, 128]⟩ 0 8 c Y (by decide) (ix3 j h d) = Y (ix3 (row (c, j)) h d) := by
  rw [Layout.block_apply]
  refine congrArg Y (funext fun a => Fin.ext ?_)
  rw [Layout.Tiles.idx_val]
  fin_cases a
  · show c.val * 4096 + j.val = j.val + 4096 * c.val
    omega
  · rfl
  · rfl

/-- A thousand and twenty-four columns are eight heads of a hundred and twenty-eight. -/
theorem sum_heads (f : Fin 1024 → EReal) : ∑ n : Fin 1024, f n = ∑ h : Fin 8, ∑ d : Fin 128, f ⟨128 * h.val + d.val, by omega⟩ := by
  rw [← Fintype.sum_prod_type' (f := fun (h : Fin 8) (d : Fin 128) => f ⟨128 * h.val + d.val, by omega⟩)]
  refine (Fintype.sum_equiv (finProdFinEquiv.trans (finCongr (by norm_num)) : Fin 8 × Fin 128 ≃ Fin 1024) _ _ fun p => congrArg f (Fin.ext ?_)).symm
  show 128 * p.1.val + p.2.val = p.2.val + 128 * p.1.val
  omega

theorem shuffle (k q a b : EReal) : k * (q * (a * b)) = b * (a * (q * k)) := by ac_rfl

/-! ## The claim's arrays -/

section
variable (m : (ℓ : Loc nD τ sig) → Buf (Elt Ideal) ℓ)
variable (x : FVec Ideal Cert.ReferenceIdeal.S256x1024 .f32) (wq wo : FVec Ideal Cert.ReferenceIdeal.S1024x1024 .f32)
  (K V : FVec Ideal Cert.ReferenceIdeal.S32768x8x128 .f32)

/-- The devices' arguments are the reference's: the first three whole, keys and values a block each. -/
structure Given : Prop where
  x : ∀ c : Dev nD, m ((c : Thread nD τ).loc main_arg0) = x
  wq : ∀ c : Dev nD, m ((c : Thread nD τ).loc main_arg1) = wq
  wo : ∀ c : Dev nD, m ((c : Thread nD τ).loc main_arg2) = wo
  K : ∀ c : Dev nD, m ((c : Thread nD τ).loc main_arg3) = Layout.block ⟨3, ![4096, 8, 128]⟩ ⟨3, ![32768, 8, 128]⟩ 0 8 c K
  V : ∀ c : Dev nD, m ((c : Thread nD τ).loc main_arg4) = Layout.block ⟨3, ![4096, 8, 128]⟩ ⟨3, ![32768, 8, 128]⟩ 0 8 c V

/-- The reference's score of query `i` at a key, in head `h`. -/
def S (h : Fin 8) (i : Fin 256) (j : Fin 32768) : EReal := Ref.score K (Ref.query x wq) (ix3 h i j)

variable {m x wq wo K V} (H : Given m x wq wo K V)
include H

/-- The kernel's score is the reference's over log 2. -/
theorem T_eq (h : Fin 8) (i : Fin 256) (p : Place) : T m h i p = (((Real.log 2)⁻¹ : ℝ) : EReal) * S x wq K h i (row p) := by
  unfold T st S
  rw [scores_apply, Ref.score_apply, mul_comm (∑ _, _) _, mul_sum_coe _ _ _ (by positivity), mul_sum_coe _ _ _ (inv_nonneg.2 (Real.log_nonneg (by norm_num)))]
  refine Finset.sum_congr rfl fun d _ => ?_
  rw [kSlab_apply, H.K, block_row, pay1_apply, Ref.query_apply, xstg_eq, wqstg_eq, H.x, H.wq, EReal.coe_mul]
  exact shuffle _ _ _ _

theorem W_eq (h : Fin 8) (d : Fin 128) (p : Place) : W m h d p = V (ix3 (row p) h d) := by
  unfold W
  rw [vSlab_apply, H.V, block_row]

theorem sup_eq (h : Fin 8) (i : Fin 256) :
    Finset.univ.sup (T m h i) = (((Real.log 2)⁻¹ : ℝ) : EReal) * Finset.univ.sup (S x wq K h i) := by
  have hp : 0 < (Real.log 2)⁻¹ := inv_pos.2 (Real.log_pos (by norm_num))
  rw [← scale_sup _ _ _ hp, show T m h i = fun p => (((Real.log 2)⁻¹ : ℝ) : EReal) * S x wq K h i (row p) from funext (T_eq H h i)]
  rw [Finset.sup_univ_eq_iSup, Finset.sup_univ_eq_iSup]
  exact Equiv.iSup_congr row fun _ => rfl

/-- So the exponentials are the reference's, and so are the sums. -/
theorem below_eq (h : Fin 8) (i : Fin 256) (v : Place → EReal) (v' : Fin 32768 → EReal) (hv : ∀ p, v p = v' (row p)) :
    below (T m h i) v Finset.univ = ∑ j : Fin 32768, v' j * Ref.weight (Ref.score K (Ref.query x wq)) (ix3 h i j) := by
  have hp : 0 < (Real.log 2)⁻¹ := inv_pos.2 (Real.log_pos (by norm_num))
  unfold below
  refine Fintype.sum_equiv row _ _ fun p => ?_
  rw [hv, T_eq H, sup_eq H, scale_sub _ hp, exp2_scaled, Ref.weight_apply]
  rfl

theorem att_eq (h : Fin 8) (i : Fin 256) (d : Fin 128) :
    att m h i d = Ref.attended V (Ref.weight (Ref.score K (Ref.query x wq))) (ix3 i h d) := by
  unfold att
  rw [Ref.attended_apply, below_eq H h i _ (fun j => V (ix3 j h d)) (W_eq H h d), below_eq H h i _ (fun _ => 1) fun _ => rfl]
  simp only [one_mul]

/-- Every device's output is the reference's result. -/
theorem out_eq (c : Dev nD) : outOf m c = Ref.result x wq wo K V := by
  funext y
  obtain ⟨i, e, rfl⟩ : ∃ (i : Fin 256) (e : Fin 1024), y = ix2 i e := ⟨y 0, y 1, eq_ix2 y⟩
  rw [outOf_apply, Ref.result, Ref.projected_apply, sum_heads]
  refine Finset.sum_congr rfl fun h _ => Finset.sum_congr rfl fun d _ => ?_
  rw [woRows_apply, H.wo, att_eq H]
  generalize Ref.attended V (Ref.weight (Ref.score K (Ref.query x wq))) = A
  have e₁ : (⟨(128 * h.val + d.val) / 128, by omega⟩ : Fin 8) = h := Fin.ext (by show (128 * h.val + d.val) / 128 = h.val; omega)
  have e₂ : (⟨(128 * h.val + d.val) % 128, by omega⟩ : Fin 128) = d := Fin.ext (by show (128 * h.val + d.val) % 128 = d.val; omega)
  rw [e₁, e₂]

end

/-! ## The claim -/

theorem algebraic : Cert.algebraic_KernelIdeal_ReferenceIdeal := fun m ρ m' ρ' _ hagree =>
  have H : Given m _ _ _ _ _ := ⟨fun c => (hagree c).1, fun c => (hagree c).2.1, fun c => (hagree c).2.2.1, fun c => (hagree c).2.2.2.1, fun c => (hagree c).2.2.2.2⟩
  ⟨Ref.result _ _ _ _ _,
    (θ_run (Cert.KernelIdeal.defs (F := Ideal)) _ _).mono
      (fun _ h c => ⟨(((h.1 c).1 (2 : Fin 3)).trans (finalA_out m c)).trans (out_eq H c),
        ((h.1 c).1 (0 : Fin 3)).trans (finalA_x m c), ((h.1 c).1 (1 : Fin 3)).trans (finalA_wq m c), (h.1 c).2.2⟩)
      (run_main (F := Ideal) m ρ),
    Ref.run m' ρ' 0⟩

end Cert.TreeProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.TreeProof.frame_kernel, Cert.TreeProof.frame_kernelIdeal, Cert.TreeProof.frame_reference, Cert.TreeProof.preserves, Cert.TreeProof.algebraic⟩

end Cert.Proof

end
